-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 × IVec S1024x1024 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_scores_ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x1024x1024 .f32) (main_arg1 : FVec F S1024x1024 .f32) (main_arg2 : FVec F S1x8192x8x128 .f32) (main_arg3 : FVec F S1x8192x8x128 .f32) (main_arg4 : FVec F S1024x1024 .f32) : IVec S1x1024x1024 1 × IVec S1024x1024 1 × IVec S1x8192x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x8192x8x128 .f32 := Host.absf main_arg2
  let main_cst_1 : FVec F S_ .f32 := constant S_ .f32 0x7F800000#32
  let main_v7 : FVec F S1x8192x8x128 .f32 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩
abbrev S10 : Shape := ⟨1, ![10]⟩
abbrev S1x256x1024 : Shape := ⟨3, ![1, 256, 1024]⟩
abbrev S256x1024 : Shape := ⟨2, ![256, 1024]⟩
abbrev S256x256 : Shape := ⟨2, ![256, 256]⟩
abbrev S256x128 : Shape := ⟨2, ![256, 128]⟩
abbrev S1x256x1x128 : Shape := ⟨4, ![1, 256, 1, 128]⟩
abbrev S256 : Shape := ⟨1, ![256]⟩
abbrev S256x1 : Shape := ⟨2, ![256, 1]⟩
abbrev S1 : Shape := ⟨1, ![1]⟩
abbrev S128x1024 : Shape := ⟨2, ![128, 1024]⟩
abbrev S256x512 : Shape := ⟨2, ![256, 512]⟩
abbrev S1x512x1x128 : Shape := ⟨4, ![1, 512, 1, 128]⟩
abbrev S512x128 : Shape := ⟨2, ![512, 128]⟩
abbrev S256x768 : Shape := ⟨2, ![256, 768]⟩
abbrev S1x768x1x128 : Shape := ⟨4, ![1, 768, 1, 128]⟩
abbrev S768x128 : Shape := ⟨2, ![768, 128]⟩
abbrev S1x1024x1x128 : Shape := ⟨4, ![1, 1024, 1, 128]⟩
abbrev S1024x128 : Shape := ⟨2, ![1024, 128]⟩
abbrev S64x1024 : Shape := ⟨2, ![64, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => true
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 3 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_17 : BitVec 32 := 3#32
  let v28 : BitVec 1 := Scalar.cmpi .eq v2 c3_i32_17
  let v29 : BitVec 32 := Scalar.extui v28
  let c0_i32_18 : BitVec 32 := 0#32
  let v30 : BitVec 1 := Scalar.cmpi .ne v29 c0_i32_18
  v30

def k0_dev1 : Nat :=
  let c0_i32_79 : BitVec 32 := 0#32
  let c0_i32_77 : BitVec 32 := 0#32
  let c1_i32_78 : BitVec 32 := 1#32
  let v144 : BitVec 32 := Scalar.muli c0_i32_77 c1_i32_78
  let v145 : BitVec 32 := Scalar.addi c0_i32_79 v144
  v145.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v31 : BitVec 1 := Scalar.cmpi .eq v2 c4_i32_19
  let v32 : BitVec 32 := Scalar.extui v31
  let c0_i32_20 : BitVec 32 := 0#32
  let v33 : BitVec 1 := Scalar.cmpi .ne v32 c0_i32_20
  v33

def k0_dev2 : Nat :=
  let c0_i32_79 : BitVec 32 := 0#32
  let c0_i32_77 : BitVec 32 := 0#32
  let c1_i32_78 : BitVec 32 := 1#32
  let v144 : BitVec 32 := Scalar.muli c0_i32_77 c1_i32_78
  let v145 : BitVec 32 := Scalar.addi c0_i32_79 v144
  v145.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_16 : BitVec 32 := 0#32
  let v27 : BitVec 1 := Scalar.cmpi .ne v2 c0_i32_16
  let c3_i32_21 : BitVec 32 := 3#32
  let v34 : BitVec 1 := Scalar.cmpi .ne v2 c3_i32_21
  let c4_i32_22 : BitVec 32 := 4#32
  let v35 : BitVec 1 := Scalar.cmpi .ne v2 c4_i32_22
  let v36 : BitVec 1 := Scalar.andi v34 v35
  let v37 : BitVec 1 := Scalar.andi v27 v36
  let v38 : BitVec 32 := Scalar.extui v37
  let c0_i32_23 : BitVec 32 := 0#32
  let v39 : BitVec 1 := Scalar.cmpi .ne v38 c0_i32_23
  v39

def k0_dev3 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 1 := Scalar.cmpi .eq v2 c2_i32
  let c1_i32_2 : BitVec 32 := 1#32
  let c5_i32 : BitVec 32 := 5#32
  let v5 : BitVec 1 := Scalar.cmpi .eq v2 c5_i32
  let c4_i32 : BitVec 32 := 4#32
  let c6_i32 : BitVec 32 := 6#32
  let v6 : BitVec 1 := Scalar.cmpi .eq v2 c6_i32
  let c5_i32_1 : BitVec 32 := 5#32
  let c7_i32 : BitVec 32 := 7#32
  let v7 : BitVec 1 := Scalar.cmpi .eq v2 c7_i32
  let c3_i32 : BitVec 32 := 3#32
  let c0_i32_0 : BitVec 32 := 0#32
  let v8 : BitVec 32 := Scalar.select v7 c3_i32 c0_i32_0
  let v9 : BitVec 32 := Scalar.select v6 c5_i32_1 v8
  let v10 : BitVec 32 := Scalar.select v5 c4_i32 v9
  let v11 : BitVec 32 := Scalar.select v4 c1_i32_2 v10
  let c1_i32_77 : BitVec 32 := 1#32
  let v144 : BitVec 32 := Scalar.muli v11 c1_i32_77
  let v145 : BitVec 32 := Scalar.addi c0_i32_78 v144
  v145.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let v46 : BitVec 32 := Scalar.extui v3
  let c0_i32_27 : BitVec 32 := 0#32
  let v47 : BitVec 1 := Scalar.cmpi .ne v46 c0_i32_27
  v47

def k0_dev4 : Nat :=
  let c0_i32_197 : BitVec 32 := 0#32
  let c1_i32_195 : BitVec 32 := 1#32
  let c1_i32_196 : BitVec 32 := 1#32
  let v373 : BitVec 32 := Scalar.muli c1_i32_195 c1_i32_196
  let v374 : BitVec 32 := Scalar.addi c0_i32_197 v373
  v374.toNat
def k0_dev5 : Nat :=
  let c0_i32_206 : BitVec 32 := 0#32
  let c3_i32_204 : BitVec 32 := 3#32
  let c1_i32_205 : BitVec 32 := 1#32
  let v381 : BitVec 32 := Scalar.muli c3_i32_204 c1_i32_205
  let v382 : BitVec 32 := Scalar.addi c0_i32_206 v381
  v382.toNat
def k0_dev6 : Nat :=
  let c0_i32_215 : BitVec 32 := 0#32
  let c4_i32_213 : BitVec 32 := 4#32
  let c1_i32_214 : BitVec 32 := 1#32
  let v389 : BitVec 32 := Scalar.muli c4_i32_213 c1_i32_214
  let v390 : BitVec 32 := Scalar.addi c0_i32_215 v389
  v390.toNat
def k0_dev7 : Nat :=
  let c0_i32_224 : BitVec 32 := 0#32
  let c1_i32_222 : BitVec 32 := 1#32
  let c1_i32_223 : BitVec 32 := 1#32
  let v397 : BitVec 32 := Scalar.muli c1_i32_222 c1_i32_223
  let v398 : BitVec 32 := Scalar.addi c0_i32_224 v397
  v398.toNat
def k0_dev8 : Nat :=
  let c0_i32_232 : BitVec 32 := 0#32
  let c3_i32_230 : BitVec 32 := 3#32
  let c1_i32_231 : BitVec 32 := 1#32
  let v405 : BitVec 32 := Scalar.muli c3_i32_230 c1_i32_231
  let v406 : BitVec 32 := Scalar.addi c0_i32_232 v405
  v406.toNat
def k0_dev9 : Nat :=
  let c0_i32_241 : BitVec 32 := 0#32
  let c4_i32_239 : BitVec 32 := 4#32
  let c1_i32_240 : BitVec 32 := 1#32
  let v413 : BitVec 32 := Scalar.muli c4_i32_239 c1_i32_240
  let v414 : BitVec 32 := Scalar.addi c0_i32_241 v413
  v414.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v50 : BitVec 32 := Scalar.extui v26
  let c0_i32_29 : BitVec 32 := 0#32
  let v51 : BitVec 1 := Scalar.cmpi .ne v50 c0_i32_29
  v51

def k0_dev10 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v54 : BitVec 32 := Scalar.extui v26
  let c0_i32_31 : BitVec 32 := 0#32
  let v55 : BitVec 1 := Scalar.cmpi .ne v54 c0_i32_31
  v55

def k0_dev11 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let v58 : BitVec 32 := Scalar.extui v3
  let c0_i32_33 : BitVec 32 := 0#32
  let v59 : BitVec 1 := Scalar.cmpi .ne v58 c0_i32_33
  v59

def k0_dev12 : Nat :=
  let c0_i32_197 : BitVec 32 := 0#32
  let c1_i32_195 : BitVec 32 := 1#32
  let c1_i32_196 : BitVec 32 := 1#32
  let v373 : BitVec 32 := Scalar.muli c1_i32_195 c1_i32_196
  let v374 : BitVec 32 := Scalar.addi c0_i32_197 v373
  v374.toNat
def k0_dev13 : Nat :=
  let c0_i32_205 : BitVec 32 := 0#32
  let c3_i32_203 : BitVec 32 := 3#32
  let c1_i32_204 : BitVec 32 := 1#32
  let v381 : BitVec 32 := Scalar.muli c3_i32_203 c1_i32_204
  let v382 : BitVec 32 := Scalar.addi c0_i32_205 v381
  v382.toNat
def k0_dev14 : Nat :=
  let c0_i32_214 : BitVec 32 := 0#32
  let c4_i32_212 : BitVec 32 := 4#32
  let c1_i32_213 : BitVec 32 := 1#32
  let v389 : BitVec 32 := Scalar.muli c4_i32_212 c1_i32_213
  let v390 : BitVec 32 := Scalar.addi c0_i32_214 v389
  v390.toNat
def k0_dev15 : Nat :=
  let c0_i32_223 : BitVec 32 := 0#32
  let c1_i32_221 : BitVec 32 := 1#32
  let c1_i32_222 : BitVec 32 := 1#32
  let v397 : BitVec 32 := Scalar.muli c1_i32_221 c1_i32_222
  let v398 : BitVec 32 := Scalar.addi c0_i32_223 v397
  v398.toNat
def k0_dev16 : Nat :=
  let c0_i32_231 : BitVec 32 := 0#32
  let c3_i32_229 : BitVec 32 := 3#32
  let c1_i32_230 : BitVec 32 := 1#32
  let v405 : BitVec 32 := Scalar.muli c3_i32_229 c1_i32_230
  let v406 : BitVec 32 := Scalar.addi c0_i32_231 v405
  v406.toNat
def k0_dev17 : Nat :=
  let c0_i32_240 : BitVec 32 := 0#32
  let c4_i32_238 : BitVec 32 := 4#32
  let c1_i32_239 : BitVec 32 := 1#32
  let v413 : BitVec 32 := Scalar.muli c4_i32_238 c1_i32_239
  let v414 : BitVec 32 := Scalar.addi c0_i32_240 v413
  v414.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v62 : BitVec 32 := Scalar.extui v26
  let c0_i32_35 : BitVec 32 := 0#32
  let v63 : BitVec 1 := Scalar.cmpi .ne v62 c0_i32_35
  v63

def k0_dev18 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v66 : BitVec 32 := Scalar.extui v26
  let c0_i32_37 : BitVec 32 := 0#32
  let v67 : BitVec 1 := Scalar.cmpi .ne v66 c0_i32_37
  v67

def k0_dev19 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let v70 : BitVec 32 := Scalar.extui v3
  let c0_i32_39 : BitVec 32 := 0#32
  let v71 : BitVec 1 := Scalar.cmpi .ne v70 c0_i32_39
  v71

def k0_dev20 : Nat :=
  let c0_i32_197 : BitVec 32 := 0#32
  let c1_i32_195 : BitVec 32 := 1#32
  let c1_i32_196 : BitVec 32 := 1#32
  let v373 : BitVec 32 := Scalar.muli c1_i32_195 c1_i32_196
  let v374 : BitVec 32 := Scalar.addi c0_i32_197 v373
  v374.toNat
def k0_dev21 : Nat :=
  let c0_i32_205 : BitVec 32 := 0#32
  let c3_i32_203 : BitVec 32 := 3#32
  let c1_i32_204 : BitVec 32 := 1#32
  let v381 : BitVec 32 := Scalar.muli c3_i32_203 c1_i32_204
  let v382 : BitVec 32 := Scalar.addi c0_i32_205 v381
  v382.toNat
def k0_dev22 : Nat :=
  let c0_i32_214 : BitVec 32 := 0#32
  let c4_i32_212 : BitVec 32 := 4#32
  let c1_i32_213 : BitVec 32 := 1#32
  let v389 : BitVec 32 := Scalar.muli c4_i32_212 c1_i32_213
  let v390 : BitVec 32 := Scalar.addi c0_i32_214 v389
  v390.toNat
def k0_dev23 : Nat :=
  let c0_i32_223 : BitVec 32 := 0#32
  let c1_i32_221 : BitVec 32 := 1#32
  let c1_i32_222 : BitVec 32 := 1#32
  let v397 : BitVec 32 := Scalar.muli c1_i32_221 c1_i32_222
  let v398 : BitVec 32 := Scalar.addi c0_i32_223 v397
  v398.toNat
def k0_dev24 : Nat :=
  let c0_i32_231 : BitVec 32 := 0#32
  let c3_i32_229 : BitVec 32 := 3#32
  let c1_i32_230 : BitVec 32 := 1#32
  let v405 : BitVec 32 := Scalar.muli c3_i32_229 c1_i32_230
  let v406 : BitVec 32 := Scalar.addi c0_i32_231 v405
  v406.toNat
def k0_dev25 : Nat :=
  let c0_i32_240 : BitVec 32 := 0#32
  let c4_i32_238 : BitVec 32 := 4#32
  let c1_i32_239 : BitVec 32 := 1#32
  let v413 : BitVec 32 := Scalar.muli c4_i32_238 c1_i32_239
  let v414 : BitVec 32 := Scalar.addi c0_i32_240 v413
  v414.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v74 : BitVec 32 := Scalar.extui v26
  let c0_i32_41 : BitVec 32 := 0#32
  let v75 : BitVec 1 := Scalar.cmpi .ne v74 c0_i32_41
  v75

def k0_dev26 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v78 : BitVec 32 := Scalar.extui v26
  let c0_i32_43 : BitVec 32 := 0#32
  let v79 : BitVec 1 := Scalar.cmpi .ne v78 c0_i32_43
  v79

def k0_dev27 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let v82 : BitVec 32 := Scalar.extui v3
  let c0_i32_45 : BitVec 32 := 0#32
  let v83 : BitVec 1 := Scalar.cmpi .ne v82 c0_i32_45
  v83

def k0_dev28 : Nat :=
  let c0_i32_196 : BitVec 32 := 0#32
  let c1_i32_194 : BitVec 32 := 1#32
  let c1_i32_195 : BitVec 32 := 1#32
  let v373 : BitVec 32 := Scalar.muli c1_i32_194 c1_i32_195
  let v374 : BitVec 32 := Scalar.addi c0_i32_196 v373
  v374.toNat
def k0_dev29 : Nat :=
  let c0_i32_204 : BitVec 32 := 0#32
  let c3_i32_202 : BitVec 32 := 3#32
  let c1_i32_203 : BitVec 32 := 1#32
  let v381 : BitVec 32 := Scalar.muli c3_i32_202 c1_i32_203
  let v382 : BitVec 32 := Scalar.addi c0_i32_204 v381
  v382.toNat
def k0_dev30 : Nat :=
  let c0_i32_213 : BitVec 32 := 0#32
  let c4_i32_211 : BitVec 32 := 4#32
  let c1_i32_212 : BitVec 32 := 1#32
  let v389 : BitVec 32 := Scalar.muli c4_i32_211 c1_i32_212
  let v390 : BitVec 32 := Scalar.addi c0_i32_213 v389
  v390.toNat
def k0_dev31 : Nat :=
  let c0_i32_222 : BitVec 32 := 0#32
  let c1_i32_220 : BitVec 32 := 1#32
  let c1_i32_221 : BitVec 32 := 1#32
  let v397 : BitVec 32 := Scalar.muli c1_i32_220 c1_i32_221
  let v398 : BitVec 32 := Scalar.addi c0_i32_222 v397
  v398.toNat
def k0_dev32 : Nat :=
  let c0_i32_230 : BitVec 32 := 0#32
  let c3_i32_228 : BitVec 32 := 3#32
  let c1_i32_229 : BitVec 32 := 1#32
  let v405 : BitVec 32 := Scalar.muli c3_i32_228 c1_i32_229
  let v406 : BitVec 32 := Scalar.addi c0_i32_230 v405
  v406.toNat
def k0_dev33 : Nat :=
  let c0_i32_239 : BitVec 32 := 0#32
  let c4_i32_237 : BitVec 32 := 4#32
  let c1_i32_238 : BitVec 32 := 1#32
  let v413 : BitVec 32 := Scalar.muli c4_i32_237 c1_i32_238
  let v414 : BitVec 32 := Scalar.addi c0_i32_239 v413
  v414.toNat
def k0_dev34 : Nat :=
  let c0_i32_248 : BitVec 32 := 0#32
  let c1_i32_246 : BitVec 32 := 1#32
  let c1_i32_247 : BitVec 32 := 1#32
  let v421 : BitVec 32 := Scalar.muli c1_i32_246 c1_i32_247
  let v422 : BitVec 32 := Scalar.addi c0_i32_248 v421
  v422.toNat
def k0_dev35 : Nat :=
  let c0_i32_256 : BitVec 32 := 0#32
  let c3_i32_254 : BitVec 32 := 3#32
  let c1_i32_255 : BitVec 32 := 1#32
  let v429 : BitVec 32 := Scalar.muli c3_i32_254 c1_i32_255
  let v430 : BitVec 32 := Scalar.addi c0_i32_256 v429
  v430.toNat
def k0_dev36 : Nat :=
  let c0_i32_265 : BitVec 32 := 0#32
  let c4_i32_263 : BitVec 32 := 4#32
  let c1_i32_264 : BitVec 32 := 1#32
  let v437 : BitVec 32 := Scalar.muli c4_i32_263 c1_i32_264
  let v438 : BitVec 32 := Scalar.addi c0_i32_265 v437
  v438.toNat
def k0_dev37 : Nat :=
  let c0_i32_273 : BitVec 32 := 0#32
  let c1_i32_271 : BitVec 32 := 1#32
  let c1_i32_272 : BitVec 32 := 1#32
  let v445 : BitVec 32 := Scalar.muli c1_i32_271 c1_i32_272
  let v446 : BitVec 32 := Scalar.addi c0_i32_273 v445
  v446.toNat
def k0_dev38 : Nat :=
  let c0_i32_281 : BitVec 32 := 0#32
  let c3_i32_279 : BitVec 32 := 3#32
  let c1_i32_280 : BitVec 32 := 1#32
  let v453 : BitVec 32 := Scalar.muli c3_i32_279 c1_i32_280
  let v454 : BitVec 32 := Scalar.addi c0_i32_281 v453
  v454.toNat
def k0_dev39 : Nat :=
  let c0_i32_290 : BitVec 32 := 0#32
  let c4_i32_288 : BitVec 32 := 4#32
  let c1_i32_289 : BitVec 32 := 1#32
  let v461 : BitVec 32 := Scalar.muli c4_i32_288 c1_i32_289
  let v462 : BitVec 32 := Scalar.addi c0_i32_290 v461
  v462.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v86 : BitVec 32 := Scalar.extui v26
  let c0_i32_47 : BitVec 32 := 0#32
  let v87 : BitVec 1 := Scalar.cmpi .ne v86 c0_i32_47
  v87

def k0_dev40 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v90 : BitVec 32 := Scalar.extui v26
  let c0_i32_49 : BitVec 32 := 0#32
  let v91 : BitVec 1 := Scalar.cmpi .ne v90 c0_i32_49
  v91

def k0_dev41 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v94 : BitVec 32 := Scalar.extui v26
  let c0_i32_51 : BitVec 32 := 0#32
  let v95 : BitVec 1 := Scalar.cmpi .ne v94 c0_i32_51
  v95

def k0_dev42 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_78 : BitVec 32 := 1#32
  let v144 : BitVec 32 := Scalar.muli v19 c1_i32_78
  let v145 : BitVec 32 := Scalar.addi c0_i32_79 v144
  v145.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .eq v2 c1_i32_12
  let c3_i32_13 : BitVec 32 := 3#32
  let v21 : BitVec 1 := Scalar.cmpi .eq v2 c3_i32_13
  let v22 : BitVec 1 := Scalar.ori v20 v21
  let c4_i32_14 : BitVec 32 := 4#32
  let v23 : BitVec 1 := Scalar.cmpi .eq v2 c4_i32_14
  let c5_i32_15 : BitVec 32 := 5#32
  let v24 : BitVec 1 := Scalar.cmpi .eq v2 c5_i32_15
  let v25 : BitVec 1 := Scalar.ori v23 v24
  let v26 : BitVec 1 := Scalar.ori v22 v25
  let v98 : BitVec 32 := Scalar.extui v26
  let c0_i32_53 : BitVec 32 := 0#32
  let v99 : BitVec 1 := Scalar.cmpi .ne v98 c0_i32_53
  v99

def k0_dev43 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v12 : BitVec 1 := Scalar.cmpi .eq v2 c1_i32_3
  let c2_i32_11 : BitVec 32 := 2#32
  let c3_i32_4 : BitVec 32 := 3#32
  let v13 : BitVec 1 := Scalar.cmpi .eq v2 c3_i32_4
  let c7_i32_10 : BitVec 32 := 7#32
  let c4_i32_5 : BitVec 32 := 4#32
  let v14 : BitVec 1 := Scalar.cmpi .eq v2 c4_i32_5
  let c5_i32_9 : BitVec 32 := 5#32
  let c5_i32_6 : BitVec 32 := 5#32
  let v15 : BitVec 1 := Scalar.cmpi .eq v2 c5_i32_6
  let c6_i32_7 : BitVec 32 := 6#32
  let c0_i32_8 : BitVec 32 := 0#32
  let v16 : BitVec 32 := Scalar.select v15 c6_i32_7 c0_i32_8
  let v17 : BitVec 32 := Scalar.select v14 c5_i32_9 v16
  let v18 : BitVec 32 := Scalar.select v13 c7_i32_10 v17
  let v19 : BitVec 32 := Scalar.select v12 c2_i32_11 v18
  let c1_i32_77 : BitVec 32 := 1#32
  let v144 : BitVec 32 := Scalar.muli v19 c1_i32_77
  let v145 : BitVec 32 := Scalar.addi c0_i32_78 v144
  v145.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S1x8x1024x8192 : Shape := ⟨4, ![1, 8, 1024, 8192]⟩
abbrev S1x1x1024x8192 : Shape := ⟨4, ![1, 1, 1024, 8192]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S1x8192, .i32⟩
  | .hbm, ⟨47, _⟩ => ⟨S1024x8192, .i32⟩
  | .hbm, ⟨48, _⟩ => ⟨S1024x8192, .i32⟩
  | .hbm, ⟨49, _⟩ => ⟨S1024x8192, .i1⟩
  | .hbm, ⟨50, _⟩ => ⟨S1x8x1024x8192, .f32⟩
  | .hbm, ⟨51, _⟩ => ⟨S_, .f32⟩
  | .hbm, ⟨52, _⟩ => ⟨S1x8x1024x8192, .f32⟩
  | .hbm, ⟨53, _⟩ => ⟨S1x8x1024x8192, .f32⟩
  | .hbm, ⟨54, _⟩ => ⟨S1x1x1024x8192, .i1⟩
  | .hbm, ⟨55, _⟩ => ⟨S_, .f32⟩
  | .hbm, ⟨56, _⟩ => ⟨S_, .f32⟩
  | .hbm, ⟨57, _⟩ => ⟨S1x8x1024x8192, .i1⟩
  | .hbm, ⟨58, _⟩ => ⟨S1x8x1024x8192, .f32⟩
  | .hbm, ⟨59, _⟩ => ⟨S1x8x1024x8192, .f32⟩
  | .hbm, ⟨60, _⟩ => ⟨S_, .f32⟩
  | .hbm, ⟨61, _⟩ => ⟨S1x8x1024, .f32⟩
  | .hbm, ⟨62, _⟩ => ⟨S1x8x1024x1, .f32⟩
  | .hbm, ⟨63, _⟩ => ⟨S1x8x1024x8192, .f32⟩
  | .hbm, ⟨64, _⟩ => ⟨S1x8x1024x8192, .f32⟩
  | .hbm, ⟨65, _⟩ => ⟨S1x8x1024x8192, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x8x1024, .f32⟩
  | .hbm, ⟨71, _⟩ => ⟨S1x8x1024x1, .f32⟩
  | .hbm, ⟨72, _⟩ => ⟨S_, .f32⟩
  | .hbm, ⟨73, _⟩ => ⟨S_, .f32⟩
  | .hbm, ⟨74, _⟩ => ⟨S1x8x1024x1, .i1⟩
  | .hbm, ⟨75, _⟩ => ⟨S1x8x1024x1, .f32⟩
  | .hbm, ⟨76, _⟩ => ⟨S1x8x1024x1, .f32⟩
  | .hbm, ⟨77, _⟩ => ⟨S1x8x1024x8192, .f32⟩
  | .hbm, ⟨78, _⟩ => ⟨S1x8x1024x8192, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x8x1024x8192, .i1⟩
  | .hbm, ⟨83, _⟩ => ⟨S1x8x1024x8192, .f32⟩
  | .hbm, ⟨84, _⟩ => ⟨S1x8x1024x8192, .f32⟩
  | .hbm, ⟨85, _⟩ => ⟨S1x8x128x1024, .f32⟩
  | .hbm, ⟨86, _⟩ => ⟨S1x1024x8x128, .f32⟩
  | .hbm, ⟨87, _⟩ => ⟨S1x1024x1024, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Flat.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Tactic
public import Idealize.ShloMosaic.Lib.Pipeline.Regions
public import Idealize.ShloMosaic.Lib.Pipeline.RegionTalk

@[expose] public section

set_option maxRecDepth 16384

/-!
# The body of the kernel, written once per kind of device

The printed body asks the device for its number and branches on it at every step.  Here the body is written three times without
branches, as a list of actions: for the source (device 0), for a device that passes chunks on, and for a device that only
receives.  On each of the eight devices the printed body is one of the three.
-/

noncomputable section

namespace Cert.KernelIdeal.Flat

open Idealize.ShloMosaic Idealize.ShloMosaic.TcCoe Idealize.SL.Sem

variable {F : FTy → Type} [FloatOps F]

/-- The programs of the body. -/
abbrev PB (F : FTy → Type) [FloatOps F] (A : Type) := Prog (TpuEff nD τ sig (Elt F) Λ₀ .tc) A

/-- The windows and scratch buffers of the call. -/
abbrev mX : Memref sig .tc .vmem S1x1024x1024 .f32 := Memref.whole cc0_stg0_0
abbrev mWq : Memref sig .tc .vmem S1024x1024 .f32 := Memref.whole cc0_stg1_0
abbrev mK : Memref sig .tc .vmem S1x1024x8x128 .f32 := Memref.whole cc0_stg2_0
abbrev mV : Memref sig .tc .vmem S1x1024x8x128 .f32 := Memref.whole cc0_stg3_0
abbrev mWo : Memref sig .tc .vmem S1024x1024 .f32 := Memref.whole cc0_stg4_0
abbrev mOut : Memref sig .tc .vmem S1x1024x1024 .f32 := Memref.whole cc0_stg5_0
abbrev mCtx : Memref sig .tc .vmem S1024x1024 .bf16 := Memref.whole cc0_scratch0
abbrev mWq16 : Memref sig .tc .vmem S1024x1024 .bf16 := Memref.whole cc0_scratch1

/-! ## The copies -/

/-- First row of chunk `k`. -/
def lo (k : Fin 10) : ℕ := (![0, 128, 256, 384, 512, 640, 768, 832, 896, 960] : Fin 10 → ℕ) k
/-- Number of rows of chunk `k`. -/
def len (k : Fin 10) : ℕ := (![128, 128, 128, 128, 128, 128, 64, 64, 64, 64] : Fin 10 → ℕ) k

/-- The shape of a chunk. -/
abbrev SC (k : Fin 10) : Shape := ⟨2, ![len k, 1024]⟩

theorem inbC (k : Fin 10) : ∀ a, (![lo k, 0] : Fin 2 → ℕ) a + (SC k).size a ≤ S1024x1024.size a := by
  revert k; decide

theorem wordsC (k : Fin 10) :
    (Rect.unit (s := S1024x1024) ![lo k, 0] (SC k).size (inbC k)).WholeWords (EltTy.packing .bf16) := by
  revert k; decide

/-- The rows of chunk `k` of the context scratch. -/
abbrev mC (k : Fin 10) : Memref sig .tc .vmem (SC k) .bf16 :=
  mCtx.slice (Rect.unit (s := S1024x1024) ![lo k, 0] (SC k).size (inbC k)) (fun _ => rfl)

theorem exactC (k : Fin 10) : (mC k).view.WordExact :=
  (Memref.isWhole_whole cc0_scratch0).wordExact_slice rfl _ (wordsC k)

/-- The ready semaphore of port `j`. -/
def readySem (j : Fin 3) : Sem sig := ⟨j.val, by have := j.isLt; show _ < 3; omega⟩
/-- The send semaphore of port `j` and chunk `k`. -/
def sendSem (j : Fin 3) (k : Fin 10) : DmaSem sig := ⟨6 + 10 * j.val + k.val, by have := j.isLt; have := k.isLt; show _ < 46; omega⟩
/-- The receive semaphore of chunk `k`. -/
def recvSem (k : Fin 10) : DmaSem sig := ⟨36 + k.val, by have := k.isLt; show _ < 46; omega⟩

/-- Run a list of programs one after another. -/
def seq : List (PB F PUnit) → PB F PUnit
  | [] => .ret ⟨⟩
  | p :: l => p >>= fun _ => seq l

/-- One unit to ready semaphore `j` of device `d`. -/
def signalP (j : Fin 3) (d : Dev nD) : PB F PUnit := semSignalWord d (readySem j) 1#32
/-- Wait for one unit on ready semaphore `j`. -/
def readyP (j : Fin 3) : PB F PUnit := semWaitWord (readySem j) 1#32
/-- Copy chunk `k` along port `j` to device `d`. -/
def sendP (j : Fin 3) (k : Fin 10) (d : Dev nD) : PB F PUnit :=
  Prog.lift (.enqueueDma (mC k) (.remote (Dev.tc d) (mC k) (.dma (sendSem j k))) (.dma (recvSem k)) (exactC k) (exactC k)
    ⟨⟨rfl, Or.inl rfl⟩, trivial⟩)
/-- Wait for the copy of chunk `k` along port `j` to have left. -/
def sentP (j : Fin 3) (k : Fin 10) : PB F PUnit :=
  Prog.lift (.waitDma2 (sendSem j k) (mC k) (mC k) (exactC k) (exactC k))
/-- Wait for chunk `k` to arrive. -/
def recvP (k : Fin 10) : PB F PUnit :=
  Prog.lift (.waitDma2 (recvSem k) (mC k) (mC k) (exactC k) (exactC k))

/-! ## The output -/

theorem inbX (b : Fin 4) : ∀ a, (![0, 256 * b.val, 0] : Fin 3 → ℕ) a + S1x256x1024.size a ≤ S1x1024x1024.size a := by
  revert b; decide
theorem inbB (b : Fin 4) : ∀ a, (![256 * b.val, 0] : Fin 2 → ℕ) a + S256x1024.size a ≤ S1024x1024.size a := by
  revert b; decide

/-- The rectangle of a whole 1024 × 1024 array. -/
abbrev rAll : Rect S1024x1024 := Rect.unit (s := S1024x1024) ![0, 0] S1024x1024.size Facts₀.inb_S1024x1024_S1024x1024_0_0
/-- The rectangle of a whole 1 × 1024 × 1024 array. -/
abbrev rAll3 : Rect S1x1024x1024 := Rect.unit (s := S1x1024x1024) ![0, 0, 0] S1x1024x1024.size Facts₀.inb_S1x1024x1024_S1x1024x1024_0_0_0
/-- Rows `256 b` to `256 b + 255` of a 1 × 1024 × 1024 array. -/
abbrev rX (b : Fin 4) : Rect S1x1024x1024 := Rect.unit (s := S1x1024x1024) ![0, 256 * b.val, 0] S1x256x1024.size (inbX b)
/-- Rows `256 b` to `256 b + 255` of a 1024 × 1024 array. -/
abbrev rB (b : Fin 4) : Rect S1024x1024 := Rect.unit (s := S1024x1024) ![256 * b.val, 0] S256x1024.size (inbB b)

/-- The output rows of block `b`: the context rows times `Wo`. -/
def outRowsP (b : Fin 4) : PB F PUnit := do
  let v : Vec F S256x1024 .bf16 ← Prog.lift (.load mCtx (rB b).toLoadRect (View.loadsAt_vmem Facts₀.h_S256x1024))
  let w : Vec F S1024x1024 .f32 ← Prog.lift (.load mWo rAll.toLoadRect (View.loadsAt_vmem Facts₀.h_S1024x1024))
  let _ : Vec F S1x256x1024 .f32 ← Prog.lift (.load mOut (rX b).toLoadRect (View.loadsAt_vmem Facts₀.h_S1x256x1024))
  Prog.lift (.store mOut (rX b) (Gen.k0_pay102 v w) Finset.univ (View.stores_vmem_bits_univ Facts₀.h_S1x256x1024 rfl) (.inl rfl))

/-- The whole output at the source: the context times `Wo`. -/
def outAllP : PB F PUnit := do
  let v : Vec F S1024x1024 .bf16 ← Prog.lift (.load mCtx rAll.toLoadRect (View.loadsAt_vmem Facts₀.h_S1024x1024))
  let w : Vec F S1024x1024 .f32 ← Prog.lift (.load mWo rAll.toLoadRect (View.loadsAt_vmem Facts₀.h_S1024x1024))
  let _ : Vec F S1x1024x1024 .f32 ← Prog.lift (.load mOut rAll3.toLoadRect (View.loadsAt_vmem Facts₀.h_S1x1024x1024))
  Prog.lift (.store mOut rAll3 (Gen.k0_pay106 v w) Finset.univ (View.stores_vmem_bits_univ Facts₀.h_S1x1024x1024 rfl) (.inl rfl))

/-- The source casts `Wq` once. -/
def wqP : PB F PUnit := do
  let v : Vec F S1024x1024 .f32 ← Prog.lift (.load mWq rAll.toLoadRect (View.loadsAt_vmem Facts₀.h_S1024x1024))
  let _ : Vec F S1024x1024 .bf16 ← Prog.lift (.load mWq16 rAll.toLoadRect (View.loadsAt_vmem Facts₀.h_S1024x1024))
  Prog.lift (.store mWq16 rAll (Gen.k0_pay101 v) Finset.univ (View.stores_vmem Facts₀.h_S1024x1024
    ((Memref.isWhole_whole cc0_scratch1).storeExact_slice rfl _ Facts₀.packedbf16_S1024x1024_S1024x1024_0_0) (fun _ => rfl)) (.inl rfl))

/-! ## The attention of one row block -/

/-- How many keys the rows of block `b` look at. -/
abbrev nk (b : Fin 4) : ℕ := 256 * (b.val + 1)

/-- The shapes of one head: scores, the loaded keys, the keys of the head. -/
abbrev SS (b : Fin 4) : Shape := ⟨2, ![256, nk b]⟩
abbrev SK4 (b : Fin 4) : Shape := ⟨4, ![1, nk b, 1, 128]⟩
abbrev SK (b : Fin 4) : Shape := ⟨2, ![nk b, 128]⟩

theorem iotaS (b : Fin 4) (a : Fin 2) : (SS b).Iotas .tc 32 [a] := by revert b a; decide
theorem castsK (b : Fin 4) : (SK4 b).ShapeCasts (SK b) := by revert b; decide
theorem posK (b : Fin 4) : 0 < (SK4 b).numel := by revert b; decide
theorem reducesS (b : Fin 4) : (SS b).Reduces [1] S256 := by revert b; decide
theorem slicesQ (h : Fin 8) : S256x1024.Slices ![0, 128 * h.val] S256x128 := by revert h; decide
theorem inbK (b : Fin 4) (h : Fin 8) : ∀ a, (![0, 0, h.val, 0] : Fin 4 → ℕ) a + (SK4 b).size a ≤ S1x1024x8x128.size a := by
  revert b h; decide
theorem inbH (b : Fin 4) (h : Fin 8) : ∀ a, (![256 * b.val, 128 * h.val] : Fin 2 → ℕ) a + S256x128.size a ≤ S1024x1024.size a := by
  revert b h; decide

/-- The keys of head `h` that block `b` looks at. -/
abbrev rK (b : Fin 4) (h : Fin 8) : Rect S1x1024x8x128 := Rect.unit (s := S1x1024x8x128) ![0, 0, h.val, 0] (SK4 b).size (inbK b h)
/-- The columns of head `h` in the rows of block `b` of the context. -/
abbrev rH (b : Fin 4) (h : Fin 8) : Rect S1024x1024 := Rect.unit (s := S1024x1024) ![256 * b.val, 128 * h.val] S256x128.size (inbH b h)

theorem packedH (b : Fin 4) (h : Fin 8) : (rH b h).PackedRows (EltTy.packing .bf16) := by revert b h; decide

/-- The printed division by 64, rounding down. -/
def div64 {s : Shape} (i : IVec s 32) : IVec s 32 :=
  have v155 : IVec s 32 := divsi i (broadcast s 64#32)
  have v162 : IVec s 32 := subi (extui 32 (cmpi .sgt i (broadcast s 0#32)) Facts₀.natLt_1_32) (extui 32 (cmpi .slt i (broadcast s 0#32)) Facts₀.natLt_1_32)
  let v167 : BitVec 32 := Scalar.subi (Scalar.extui (Scalar.cmpi .sgt 64#32 0#32)) (Scalar.extui (Scalar.cmpi .slt 64#32 0#32))
  have v169 : IVec s 1 := cmpi .ne v162 (broadcast s v167)
  have v173 : IVec s 1 := cmpi .ne (remsi i (broadcast s 64#32)) (broadcast s 0#32)
  select (andi v169 v173) (subi v155 (broadcast s 1#32)) v155

/-- Which keys a row of block `b` sees: those whose block of 64 is not after the row's. -/
def mask (b : Fin 4) : IVec (SS b) 1 :=
  cmpi .sle (div64 (iota .tc (SS b) 32 [1] (iotaS b 1)))
    (addi (div64 (iota .tc (SS b) 32 [0] (iotaS b 0))) (broadcast (SS b) (BitVec.ofNat 32 (4 * b.val))))

/-- The weights of one head of block `b`. -/
def wts (b : Fin 4) (h : Fin 8) (q : FVec F S256x1024 .bf16) (k : Vec F (SK4 b) .f32) : FVec F (SS b) .f32 :=
  select (mask b)
    (exp (matmul (DotDims.transposedRhs 256 128 (nk b)) none (extractStridedSlice S256x128 ![0, 128 * h.val] q (slicesQ h))
      (truncf .bf16 (shapeCast (SK b) k (castsK b) : FVec F (SK b) .f32) Facts₀.bitsLt_bf16_f32 : FVec F (SK b) .bf16)
      (constant (SS b) .f32 0x00000000#32 : FVec F (SS b) .f32)))
    (broadcast (SS b) (Scalar.ofBits .f32 0x00000000#32 : F .f32))

/-- The context of one head of block `b`. -/
def headv (b : Fin 4) (h : Fin 8) (q : FVec F S256x1024 .bf16) (k v : Vec F (SK4 b) .f32) : FVec F S256x128 .bf16 :=
  have w : FVec F (SS b) .f32 := wts b h q k
  have z : FVec F S256 .f32 := multiReduction .add [1] S256 w 0x00000000#32 (reducesS b) (.inl rfl) rfl
  have y : FVec F S256x128 .f32 := matmul (DotDims.plain 256 (nk b) 128) none (truncf .bf16 w Facts₀.bitsLt_bf16_f32 : FVec F (SS b) .bf16)
    (truncf .bf16 (shapeCast (SK b) v (castsK b) : FVec F (SK b) .f32) Facts₀.bitsLt_bf16_f32 : FVec F (SK b) .bf16)
    (constant S256x128 .f32 0x00000000#32)
  shapeCast S256x128 (truncf .bf16 (divf y (broadcastTo S256x128 (shapeCast S256x1 z Facts₀.shapeCasts_S256_S256x1 : FVec F S256x1 .f32)
    Facts₀.broadcasts_S256x1_S256x128)) Facts₀.bitsLt_bf16_f32 : FVec F S256x128 .bf16) Facts₀.shapeCasts_S256x128_S256x128

/-- One head of block `b`. -/
def headP (b : Fin 4) (q : FVec F S256x1024 .bf16) (h : Fin 8) : PB F PUnit := do
  let k : Vec F (SK4 b) .f32 ← Prog.lift (.load mK (rK b h).toLoadRect (View.loadsAt_vmem (posK b)))
  let v : Vec F (SK4 b) .f32 ← Prog.lift (.load mV (rK b h).toLoadRect (View.loadsAt_vmem (posK b)))
  let _ : Vec F S256x128 .bf16 ← Prog.lift (.load mCtx (rH b h).toLoadRect (View.loadsAt_vmem Facts₀.h_S256x128))
  Prog.lift (.store mCtx (rH b h) (headv b h q k v) Finset.univ (View.stores_vmem Facts₀.h_S256x128
    ((Memref.isWhole_whole cc0_scratch0).storeExact_slice rfl _ (packedH b h)) (fun _ => rfl)) (.inl rfl))

/-- The context rows of block `b`, head after head. -/
def blockP (b : Fin 4) : PB F PUnit := do
  let x : Vec F S1x256x1024 .f32 ← Prog.lift (.load mX (rX b).toLoadRect (View.loadsAt_vmem Facts₀.h_S1x256x1024))
  let w : Vec F S1024x1024 .bf16 ← Prog.lift (.load mWq16 rAll.toLoadRect (View.loadsAt_vmem Facts₀.h_S1024x1024))
  seq ([0, 1, 2, 3, 4, 5, 6, 7].map (headP b (Gen.k0_pay1 x w)))

/-! ## The three programs -/

/-- The chunks of row block `b`. -/
def chunks (b : Fin 4) : List (Fin 10) := (![[0, 1], [2, 3], [4, 5], [6, 7, 8, 9]] : Fin 4 → List (Fin 10)) b
/-- The chunks. -/
def allK : List (Fin 10) := [0, 1, 2, 3, 4, 5, 6, 7, 8, 9]

/-- The source, its ports to devices 1, 3 and 4. -/
def srcL : List (PB F PUnit) :=
  [readyP 0, readyP 1, readyP 2, wqP] ++
  ([0, 1, 2, 3] : List (Fin 4)).flatMap (fun b => blockP b :: (chunks b).flatMap fun k => [sendP 0 k 1, sendP 1 k 3, sendP 2 k 4]) ++
  [outAllP] ++ allK.flatMap fun k => [sentP 0 k, sentP 1 k, sentP 2 k]

/-- A device that hangs off port `j` of device `p` and passes chunks on to device `d`. -/
def fwdL (j : Fin 3) (p d : Dev nD) : List (PB F PUnit) :=
  [signalP j p, readyP 0] ++
  ([0, 1, 2, 3] : List (Fin 4)).flatMap (fun b => (chunks b).flatMap (fun k => [recvP k, sendP 0 k d]) ++ [outRowsP b]) ++
  allK.map (sentP 0)

/-- A device that hangs off port `j` of device `p` and only receives. -/
def leafL (j : Fin 3) (p : Dev nD) : List (PB F PUnit) :=
  [signalP j p] ++ ([0, 1, 2, 3] : List (Fin 4)).flatMap fun b => (chunks b).map recvP ++ [outRowsP b]

/-- The program of device `d`. -/
def progOf (d : Dev nD) : PB F PUnit :=
  (![seq srcL, seq (fwdL 0 0 2), seq (leafL 0 1), seq (fwdL 1 0 7), seq (fwdL 2 0 5), seq (fwdL 0 4 6), seq (leafL 0 5), seq (leafL 0 3)] : Fin 8 → PB F PUnit) d

/-- What a program that begins by asking its device's number does on device `d`. -/
def contAt {A : Type} (p : PB F A) (d : Dev nD) : PB F A :=
  match p with
  | .op .deviceId k => k d
  | p => p

theorem flat0 : contAt (F := F) (Gen.bodyAt0 Gen.t0_0) 0 = progOf 0 := by chain_rfl
theorem flat1 : contAt (F := F) (Gen.bodyAt0 Gen.t0_0) 1 = progOf 1 := by chain_rfl
theorem flat2 : contAt (F := F) (Gen.bodyAt0 Gen.t0_0) 2 = progOf 2 := by chain_rfl
theorem flat3 : contAt (F := F) (Gen.bodyAt0 Gen.t0_0) 3 = progOf 3 := by chain_rfl
theorem flat4 : contAt (F := F) (Gen.bodyAt0 Gen.t0_0) 4 = progOf 4 := by chain_rfl
theorem flat5 : contAt (F := F) (Gen.bodyAt0 Gen.t0_0) 5 = progOf 5 := by chain_rfl
theorem flat6 : contAt (F := F) (Gen.bodyAt0 Gen.t0_0) 6 = progOf 6 := by chain_rfl
theorem flat7 : contAt (F := F) (Gen.bodyAt0 Gen.t0_0) 7 = progOf 7 := by chain_rfl

/-- On every device the printed body is the program of that device. -/
theorem flat (d : Dev nD) : contAt (F := F) (Gen.bodyAt0 Gen.t0_0) d = progOf d := by
  match d with
  | ⟨0, _⟩ => exact flat0
  | ⟨1, _⟩ => exact flat1
  | ⟨2, _⟩ => exact flat2
  | ⟨3, _⟩ => exact flat3
  | ⟨4, _⟩ => exact flat4
  | ⟨5, _⟩ => exact flat5
  | ⟨6, _⟩ => exact flat6
  | ⟨7, _⟩ => exact flat7

/-- The printed body begins by asking for the device's number. -/
theorem body_op : ∃ k, (Gen.bodyAt0 (F := F) Gen.t0_0) = .op .deviceId k := ⟨_, rfl⟩

end Cert.KernelIdeal.Flat
-- ==== Proof.Protocol.lean ====
module

public import proofs.«01_k».proof.Proof.Flat
public import Idealize.ShloMosaic.Lib.Pipeline.Kit
public import Idealize.ShloMosaic.Lib.Pipeline.Launch
public import Idealize.ShloMosaic.Lib.Pipeline.BigSepL
public import Idealize.ShloMosaic.Lib.Pipeline.ValueKit.Geometry

@[expose] public section

set_option maxRecDepth 16384

/-!
# The protocol of the broadcast

Device 0 computes the attention context, a 1024 × 1024 array, in four row blocks, and the other devices receive it row chunk
by row chunk along the tree 0 → 1, 3, 4; 1 → 2; 3 → 7; 4 → 5; 5 → 6.

Semaphores of one device:

* three ready semaphores, one per port.  The device hanging off port `j` signals ready semaphore `j` of its parent once, one
  unit; with the unit it hands over its whole context scratch, chunk by chunk, for the parent to write.
* thirty send semaphores, ten per port, one per chunk.  A copy of chunk `k` along port `j` credits send semaphore `(j, k)` of
  the sender with the chunk's amount and gives the lent share of the source rows back.
* ten receive semaphores, one per chunk.  The parent's copy of chunk `k` credits receive semaphore `k` of the child with the
  chunk's amount and gives the child its rows of chunk `k` back, now holding device 0's context.

Order: a device signals its parent first, then waits for its own ports, then receives (or computes) chunk after chunk and sends
each one on, and at the end waits for its own sends.  Every wait is on a semaphore of a lower level than what is still owed:
sends 0, ready 1, receives 1 + the depth of the device in the tree.
-/

noncomputable section

namespace Cert.KernelIdeal.Proto

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.KernelIdeal.Flat

variable {F : FTy → Type}

/-- The ghost state of the pipeline and of the broadcast. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The tree -/

/-- The parent of a device (device 0 is its own). -/
def par (d : Dev nD) : Dev nD := (![0, 0, 1, 0, 0, 4, 5, 3] : Fin 8 → Fin 8) d
/-- The port of the parent a device hangs off. -/
def port (d : Dev nD) : Fin 3 := (![0, 0, 0, 1, 2, 0, 0, 0] : Fin 8 → Fin 3) d
/-- The device hanging off port `j`. -/
def kid (j : Fin 3) (d : Dev nD) : Dev nD :=
  (![![1, 2, 0, 7, 5, 6, 0, 0], ![3, 0, 0, 0, 0, 0, 0, 0], ![4, 0, 0, 0, 0, 0, 0, 0]] : Fin 3 → Fin 8 → Fin 8) j d
/-- The ports of a device that have a device hanging off them, -/
def ports (d : Dev nD) : List (Fin 3) := (![[0, 1, 2], [0], [], [0], [0], [0], [], []] : Fin 8 → List (Fin 3)) d
/-- and those that have none. -/
def noPorts (d : Dev nD) : List (Fin 3) := (![[], [1, 2], [0, 1, 2], [1, 2], [1, 2], [1, 2], [0, 1, 2], [0, 1, 2]] : Fin 8 → List (Fin 3)) d
/-- The depth of a device in the tree. -/
def depth (d : Dev nD) : ℕ := (![0, 1, 2, 1, 1, 2, 3, 2] : Fin 8 → ℕ) d

/-- The three ports. -/
def allJ : List (Fin 3) := [0, 1, 2]

theorem ports_append (d : Dev nD) : ports d ++ noPorts d = allJ := by revert d; decide
theorem kid_port : ∀ d : Dev nD, d ≠ 0 → kid (port d) (par d) = d ∧ port d ∈ ports (par d) := by decide
theorem kid_ne : ∀ (d : Dev nD), ∀ j ∈ ports d, kid j d ≠ 0 := by decide
theorem depth_kid : ∀ (d : Dev nD), ∀ j ∈ ports d, depth (kid j d) = depth d + 1 := by decide

/-! ## The cells -/

abbrev readyCell (j : Fin 3) (d : Dev nD) : GSem nD τ sig := ((d : Thread nD τ), .reg (readySem j))
abbrev sendCell (j : Fin 3) (k : Fin 10) (d : Dev nD) : GSem nD τ sig := ((d : Thread nD τ), .dma (sendSem j k))
abbrev recvCell (k : Fin 10) (d : Dev nD) : GSem nD τ sig := ((d : Thread nD τ), .dma (recvSem k))

/-- The amount a copy of chunk `k` credits. -/
def amt (k : Fin 10) : ℕ := (mC k).view.dmaCredit
theorem amt_pos (k : Fin 10) : 0 < amt k := View.dmaCredit_pos _ (by revert k; decide)

/-- The port a DMA semaphore's number belongs to, and its chunk. -/
def portOf (s : ℕ) : Fin 3 := ⟨(s - 6) / 10 % 3, Nat.mod_lt _ (by decide)⟩
def chunkOf (s : ℕ) : Fin 10 := ⟨(s - 6) % 10, Nat.mod_lt _ (by decide)⟩

theorem portOf_send (j : Fin 3) (k : Fin 10) : portOf (sendSem j k).val = j := by revert j k; decide
theorem chunkOf_send (j : Fin 3) (k : Fin 10) : chunkOf (sendSem j k).val = k := by revert j k; decide
theorem chunkOf_recv (k : Fin 10) : chunkOf (recvSem k).val = k := by revert k; decide
theorem send_range (j : Fin 3) (k : Fin 10) : 6 ≤ (sendSem j k).val ∧ (sendSem j k).val < 36 := by revert j k; decide
theorem recv_range (k : Fin 10) : 36 ≤ (recvSem k).val := by revert k; decide
theorem readySem_val (j : Fin 3) : (readySem j).val = j.val := rfl

/-! ## Shares and pieces -/

/-- Contents of the context scratch. -/
abbrev Ctx (F : FTy → Type) : Type := (cc0_scratch0 : Ref sig .tc).ty.Contents (Elt F)

/-- The share of a chunk lent along port `j`; the left half is kept for reading. -/
def shr (j : Fin 3) : PosShare TreeShare :=
  (![fullShare.right.left, fullShare.right.right.left, fullShare.right.right.right] : Fin 3 → PosShare TreeShare) j

/-- The rows of chunk `k` of device `d`'s context, share `q`, contents `f`. -/
def pts (k : Fin 10) (q : PosShare TreeShare) (d : Dev nD) (f : Ctx F) : sProp 𝕄 :=
  (mC k).view.loc (d : Thread nD τ) ↦[(mC k).view.set]{q} f

instance pts_storable (k : Fin 10) (q : PosShare TreeShare) (d : Dev nD) (f : Ctx F) : BI.Storable (upEmb : UEmb _ 𝕄) (pts k q d f) := by
  unfold pts; infer_instance

/-- The whole context scratch of device `d`, chunk by chunk, at any contents. -/
def pieces (d : Dev nD) : sProp 𝕄 := bigSep Finset.univ fun k : Fin 10 => iprop(∃ f : Ctx F, pts k fullShare d f)

instance pieces_storable (d : Dev nD) : BI.Storable (upEmb : UEmb _ 𝕄) (pieces (F := F) d) := by
  unfold pieces; infer_instance

/-! ## The schedule -/

/-- Which semaphores of a device are used. -/
def used (d : Dev nD) : SemLoc sig → Bool
  | .reg s => decide (portOf (6 + 10 * s.val) ∈ ports d)
  | .dma s => if s.val < 6 then false else if s.val < 36 then decide (portOf s.val ∈ ports d) else decide (d ≠ 0)

/-- The broadcast's schedule: every used semaphore has one round of one duty. -/
def Rd (C : Ctx F) : Rounds.Schedule (GSem nD τ sig) Unit 𝕄 where
  duties g r := if r = 0 ∧ g.1.2 = .tc ∧ used g.1.1 g.2 = true then {()} else ∅
  unitless _ := False
  amount g _ _ := match g.2 with
    | .reg _ => 1
    | .dma s => amt (chunkOf s.val)
  payload g _ _ := match g.2 with
    | .reg s => pieces (kid (portOf (6 + 10 * s.val)) g.1.1)
    | .dma s => if s.val < 36 then pts (chunkOf s.val) (shr (portOf s.val)) g.1.1 C else pts (chunkOf s.val) fullShare g.1.1 C
  amount_pos g _ _ _ := by
    obtain ⟨_, s⟩ := g
    cases s
    · exact Nat.one_pos
    · exact amt_pos _

variable (C : Ctx F)

instance Rd_payload_storable (g : GSem nD τ sig) (r : ℕ) (d : Unit) : BI.Storable (upEmb : UEmb _ 𝕄) ((Rd C).payload g r d) := by
  obtain ⟨t, s⟩ := g
  cases s
  · show BI.Storable upEmb (pieces _); infer_instance
  · rename_i s
    show BI.Storable upEmb (if s.val < 36 then pts (chunkOf s.val) (shr (portOf s.val)) t.1 C else pts (chunkOf s.val) fullShare t.1 C)
    split <;> infer_instance

theorem used_ready (j : Fin 3) (d : Dev nD) (h : j ∈ ports d) : used d (.reg (readySem j)) = true := by
  revert j d; decide
theorem used_send (j : Fin 3) (k : Fin 10) (d : Dev nD) (h : j ∈ ports d) : used d (.dma (sendSem j k)) = true := by
  revert j k d; decide
theorem used_recv (k : Fin 10) (d : Dev nD) (h : d ≠ 0) : used d (.dma (recvSem k)) = true := by
  revert k d; decide
theorem unused_ready (j : Fin 3) (d : Dev nD) (h : j ∈ noPorts d) : used d (.reg (readySem j)) = false := by
  revert j d; decide
theorem unused_send (j : Fin 3) (k : Fin 10) (d : Dev nD) (h : j ∈ noPorts d) : used d (.dma (sendSem j k)) = false := by
  revert j k d; decide
theorem unused_recv (k : Fin 10) : used 0 (.dma (recvSem k)) = false := by revert k; decide

theorem duties_used (d : Dev nD) (s : SemLoc sig) (h : used d s = true) : (Rd C).duties ((d : Thread nD τ), s) 0 = {()} := by
  dsimp only [Rd]; exact if_pos ⟨rfl, rfl, h⟩
theorem duties_unused (d : Dev nD) (s : SemLoc sig) (h : used d s = false) : ∀ r, 0 ≤ r → (Rd C).duties ((d : Thread nD τ), s) r = ∅ := by
  intro r _; dsimp only [Rd]; exact if_neg fun h' => by rw [h] at h'; exact absurd h'.2.2 (by decide)
theorem duties_later (g : GSem nD τ sig) : ∀ r, 0 + 1 ≤ r → (Rd C).duties g r = ∅ :=
  fun r hr => by dsimp only [Rd]; exact if_neg fun h => by omega

theorem amount_ready (j : Fin 3) (d : Dev nD) (u : Unit) : (Rd C).amount (readyCell j d) 0 u = 1 := rfl
theorem amount_send (j : Fin 3) (k : Fin 10) (d : Dev nD) (u : Unit) : (Rd C).amount (sendCell j k d) 0 u = amt k := by
  show amt (chunkOf (sendSem j k).val) = _; rw [chunkOf_send]
theorem amount_recv (k : Fin 10) (d : Dev nD) (u : Unit) : (Rd C).amount (recvCell k d) 0 u = amt k := by
  show amt (chunkOf (recvSem k).val) = _; rw [chunkOf_recv]

theorem portOf_ready (j : Fin 3) : portOf (6 + 10 * (readySem j).val) = j := by revert j; decide
theorem payload_ready (j : Fin 3) (d : Dev nD) (u : Unit) : (Rd C).payload (readyCell j d) 0 u = pieces (kid j d) := by
  show pieces (kid (portOf (6 + 10 * (readySem j).val)) d) = _; rw [portOf_ready]
theorem payload_send (j : Fin 3) (k : Fin 10) (d : Dev nD) (u : Unit) : (Rd C).payload (sendCell j k d) 0 u = pts k (shr j) d C := by
  show (if (sendSem j k).val < 36 then pts (chunkOf (sendSem j k).val) (shr (portOf (sendSem j k).val)) d C
    else pts (chunkOf (sendSem j k).val) fullShare d C) = _
  rw [if_pos (send_range j k).2, chunkOf_send, portOf_send]
theorem payload_recv (k : Fin 10) (d : Dev nD) (u : Unit) : (Rd C).payload (recvCell k d) 0 u = pts k fullShare d C := by
  show (if (recvSem k).val < 36 then pts (chunkOf (recvSem k).val) (shr (portOf (recvSem k).val)) d C
    else pts (chunkOf (recvSem k).val) fullShare d C) = _
  rw [if_neg (by have := recv_range k; omega), chunkOf_recv]

theorem expect_used (d : Dev nD) (s : SemLoc sig) (h : used d s = true) :
    (Rd C).expect ((d : Thread nD τ), s) 0 = (Rd C).amount ((d : Thread nD τ), s) 0 () := by
  unfold Schedule.expect Schedule.amountOf; rw [duties_used C d s h, Finset.sum_singleton]
theorem rest_used (d : Dev nD) (s : SemLoc sig) (h : used d s = true) :
    bigSep ((Rd C).duties ((d : Thread nD τ), s) 0 \ ∅) (fun u => (Rd C).payload ((d : Thread nD τ), s) 0 u)
      = (Rd C).payload ((d : Thread nD τ), s) 0 () := by
  rw [Finset.sdiff_empty, duties_used C d s h, bigSep_singleton]

/-! ## What is owed, and the levels -/

/-- The tally of a list of cells with amounts. -/
def owedL : List (GSem nD τ sig × ℕ) → CellTallies nD τ sig Unit
  | [] => 0
  | p :: l => owedL l + tallyAt p.1 () p.2

/-- What device `d` owes for the copy of chunk `k` along port `j`. -/
abbrev owedSend (d : Dev nD) (jk : Fin 3 × Fin 10) : GSem nD τ sig × ℕ := (recvCell jk.2 (kid jk.1 d), amt jk.2)
/-- The copies device `d` makes of the chunks `l`, in order. -/
def sendsOf (d : Dev nD) (l : List (Fin 10)) : List (Fin 3 × Fin 10) := l.flatMap fun k => (ports d).map fun j => (j, k)
/-- What device `d` owes its parent's ready semaphore. -/
def owedUp (d : Dev nD) : List (GSem nD τ sig × ℕ) := if d = 0 then [] else [(readyCell (port d) (par d), 1)]
/-- What device `d` owes at launch. -/
def O₀ (d : Dev nD) : CellTallies nD τ sig Unit := owedL (owedUp d ++ (sendsOf d allK).map (owedSend d))

def L (g : GSem nD τ sig) : Finset Unit := if g.1.2 = .tc then {()} else ∅
/-- The level of a semaphore. -/
def lvl (g : GSem nD τ sig) : ℕ := match g.2 with
  | .reg _ => 1
  | .dma s => if s.val < 36 then 0 else 1 + depth g.1.1
def lv (g : GSem nD τ sig) (_ : Unit) : ℕ := lvl g
theorem L_of_ne (g : GSem nD τ sig) (h : g.1.2 ≠ .tc) : L g = ∅ := if_neg h

theorem owedL_pos {l : List (GSem nD τ sig × ℕ)} {g : GSem nD τ sig} {u : Unit} (h : 0 < owedL l g u) : ∃ p ∈ l, g = p.1 := by
  induction l with
  | nil => exact absurd h (Nat.lt_irrefl 0)
  | cons p l ih =>
    unfold owedL at h
    rw [Pi.add_apply, Finsupp.add_apply, tallyAt_apply] at h
    by_cases hg : g = p.1
    · exact ⟨p, List.mem_cons_self, hg⟩
    · rw [if_neg (fun h' => hg h'.1), Nat.add_zero] at h
      obtain ⟨q, hq, e⟩ := ih h
      exact ⟨q, List.mem_cons_of_mem _ hq, e⟩

/-- A device may wait on a semaphore whose level is below everything it owes. -/
theorem mayWait (c : Dev nD) (s : SemLoc sig) (l : List (GSem nD τ sig × ℕ))
    (h : ∀ p ∈ l, p.1.1.2 = .tc ∧ lvl ((c : Thread nD τ), s) < lvl p.1) :
    (levAts L lv : sProp 𝕄) ⊢ MayWait (c : Thread nD τ) s () (owedL l) :=
  MayOwe.of_cut (L := L) (lev := lv) (lvl ((c : Thread nD τ), s))
    (fun p hp => by rw [Finset.mem_singleton.mp hp]; unfold L; rw [if_pos rfl]; exact Finset.mem_singleton_self _)
    (fun g u hg => by
      obtain ⟨p, hp, rfl⟩ := owedL_pos hg
      unfold L; rw [if_pos (h p hp).1]; exact Finset.mem_singleton_self _)
    (fun p hp => by rw [Finset.mem_singleton.mp hp]; exact Nat.le_refl _)
    (fun g u hg => by
      obtain ⟨p, hp, rfl⟩ := owedL_pos hg
      exact (h p hp).2)

theorem lvl_send (j : Fin 3) (k : Fin 10) (d : Dev nD) : lvl (sendCell j k d) = 0 := by
  show (if (sendSem j k).val < 36 then 0 else 1 + depth d) = 0; exact if_pos (send_range j k).2
theorem lvl_recv (k : Fin 10) (d : Dev nD) : lvl (recvCell k d) = 1 + depth d := by
  show (if (recvSem k).val < 36 then 0 else 1 + depth d) = _; exact if_neg (by have := recv_range k; omega)
theorem lvl_ready (j : Fin 3) (d : Dev nD) : lvl (readyCell j d) = 1 := rfl

/-- Everything a device still owes for copies is above its own receive semaphores. -/
theorem above_sends (d : Dev nD) (l : List (Fin 10)) :
    ∀ p ∈ (sendsOf d l).map (owedSend d), p.1.1.2 = .tc ∧ 1 + depth d < lvl p.1 := by
  intro p hp
  obtain ⟨⟨j, k⟩, hjk, rfl⟩ := List.mem_map.mp hp
  obtain ⟨k', _, h⟩ := List.mem_flatMap.mp hjk
  obtain ⟨j', hj, e⟩ := List.mem_map.mp h
  cases e
  refine ⟨rfl, ?_⟩
  show _ < lvl (recvCell k (kid j d))
  rw [lvl_recv, depth_kid d j hj]; omega

end Cert.KernelIdeal.Proto
-- ==== Proof.Contents.lean ====
module

public import proofs.«01_k».proof.Proof.Protocol
public import Idealize.ShloMosaic.Lib.Pointwise.Index

@[expose] public section

set_option maxRecDepth 16384

/-!
# What the buffers hold

The context and the output as functions of the arguments, index by index, and what one store of the body does to the buffer it
writes.
-/

noncomputable section

namespace Cert.KernelIdeal.Proto

open Idealize.ShloMosaic Idealize.ShloMosaic.TcCoe
open Cert.KernelIdeal.Gen Cert.KernelIdeal.Flat

variable {F : FTy → Type}

/-! ## Membership -/

theorem mem_mC (k : Fin 10) (i : S1024x1024.Idx) : i ∈ (mC k).view.set ↔ lo k ≤ (i 0).val ∧ (i 0).val < lo k + len k := by
  refine ValueKit.mem_set_slice_whole_iff cc0_scratch0 _ i ?_
  refine Rect.mem_set_unit.trans ?_
  refine Fin.forall_fin_two.trans ⟨fun h => h.1, fun h => ⟨h, Nat.zero_le _, ?_⟩⟩
  have := (i 1).isLt
  show (i 1).val < 0 + 1024
  rw [Nat.zero_add]; exact this

/-- The elements of row block `b` of the context scratch. -/
def blk (b : Fin 4) : Finset S1024x1024.Idx := (mCtx.access (rB b)).set

theorem mem_blk (b : Fin 4) (i : S1024x1024.Idx) : i ∈ blk b ↔ 256 * b.val ≤ (i 0).val ∧ (i 0).val < 256 * b.val + 256 := by
  refine ValueKit.mem_set_slice_whole_iff cc0_scratch0 _ i ?_
  refine Rect.mem_set_unit.trans ?_
  refine Fin.forall_fin_two.trans ⟨fun h => h.1, fun h => ⟨h, Nat.zero_le _, ?_⟩⟩
  have := (i 1).isLt
  show (i 1).val < 0 + 1024
  rw [Nat.zero_add]; exact this

theorem mem_head (b : Fin 4) (h : Fin 8) (i : S1024x1024.Idx) : i ∈ (mCtx.access (rH b h)).set ↔
    (256 * b.val ≤ (i 0).val ∧ (i 0).val < 256 * b.val + 256) ∧ (128 * h.val ≤ (i 1).val ∧ (i 1).val < 128 * h.val + 128) := by
  refine ValueKit.mem_set_slice_whole_iff cc0_scratch0 _ i ?_
  exact Rect.mem_set_unit.trans Fin.forall_fin_two

theorem mem_outRows (b : Fin 4) (i : S1x1024x1024.Idx) : i ∈ (mOut.access (rX b)).set ↔
    256 * b.val ≤ (i 1).val ∧ (i 1).val < 256 * b.val + 256 := by
  refine ValueKit.mem_set_slice_whole_iff cc0_stg5_0 _ i ?_
  refine Rect.mem_set_unit.trans ?_
  have h0 := (i 0).isLt
  have h2 := (i 2).isLt
  constructor
  · exact fun h => h 1
  · intro h a
    match a with
    | ⟨0, _⟩ => exact ⟨Nat.zero_le _, by show (i 0).val < 0 + 1; rw [Nat.zero_add]; exact h0⟩
    | ⟨1, _⟩ => exact h
    | ⟨2, _⟩ => exact ⟨Nat.zero_le _, by show (i 2).val < 0 + 1024; rw [Nat.zero_add]; exact h2⟩

theorem ex_two {α : Type} [DecidableEq α] {p : α → Prop} (a b : α) : (∃ x, x ∈ [a, b].toFinset ∧ p x) ↔ p a ∨ p b := by simp
theorem ex_four {α : Type} [DecidableEq α] {p : α → Prop} (a b c d : α) :
    (∃ x, x ∈ [a, b, c, d].toFinset ∧ p x) ↔ p a ∨ p b ∨ p c ∨ p d := by simp

/-- A block is its chunks. -/
theorem blk_chunks (b : Fin 4) : blk b = (chunks b).toFinset.biUnion fun k => (mC k).view.set := by
  ext i
  refine Iff.trans (mem_blk b i) (Iff.trans ?_ Finset.mem_biUnion.symm)
  refine Iff.trans ?_ (exists_congr fun k => and_congr_right' (mem_mC k i)).symm
  generalize (i 0).val = n
  match b with
  | ⟨0, _⟩ => refine Iff.trans ?_ (ex_two _ _).symm; show (0 ≤ n ∧ n < 256) ↔ (0 ≤ n ∧ n < 0 + 128) ∨ (128 ≤ n ∧ n < 128 + 128); omega
  | ⟨1, _⟩ => refine Iff.trans ?_ (ex_two _ _).symm; show (256 ≤ n ∧ n < 512) ↔ (256 ≤ n ∧ n < 256 + 128) ∨ (384 ≤ n ∧ n < 384 + 128); omega
  | ⟨2, _⟩ => refine Iff.trans ?_ (ex_two _ _).symm; show (512 ≤ n ∧ n < 768) ↔ (512 ≤ n ∧ n < 512 + 128) ∨ (640 ≤ n ∧ n < 640 + 128); omega
  | ⟨3, _⟩ =>
    refine Iff.trans ?_ (ex_four _ _ _ _).symm
    show (768 ≤ n ∧ n < 1024) ↔ (768 ≤ n ∧ n < 768 + 64) ∨ (832 ≤ n ∧ n < 832 + 64) ∨ (896 ≤ n ∧ n < 896 + 64) ∨ (960 ≤ n ∧ n < 960 + 64)
    omega

theorem chunk_disjoint (k k' : Fin 10) (h : k ≠ k') : Disjoint (mC k).view.set (mC k').view.set := by
  refine Finset.disjoint_left.mpr fun i hi hi' => ?_
  rw [mem_mC] at hi hi'
  have key : ∀ k k' : Fin 10, k ≠ k' → lo k + len k ≤ lo k' ∨ lo k' + len k' ≤ lo k := by decide
  have := key k k' h
  omega

theorem chunks_all : (Finset.univ : Finset S1024x1024.Idx) = (Finset.univ : Finset (Fin 10)).biUnion fun k => (mC k).view.set := by
  ext i
  simp only [Finset.mem_biUnion, Finset.mem_univ, true_and, true_iff]
  have hi : (i 0).val < 1024 := (i 0).isLt
  have h := blk_chunks ⟨(i 0).val / 256, by omega⟩
  have hm : i ∈ blk ⟨(i 0).val / 256, by omega⟩ := (mem_blk _ i).mpr ⟨by show 256 * ((i 0).val / 256) ≤ _; omega, by show _ < 256 * ((i 0).val / 256) + 256; omega⟩
  rw [h] at hm
  obtain ⟨k, _, hk⟩ := Finset.mem_biUnion.mp hm
  exact ⟨k, hk⟩

/-! ## The context -/

variable [FloatOps F]

/-- The arguments of the call. -/
structure Args (F : FTy → Type) where
  x : Vec F S1x1024x1024 .f32
  wq : Vec F S1024x1024 .f32
  k : Vec F S1x1024x8x128 .f32
  v : Vec F S1x1024x8x128 .f32
  wo : Vec F S1024x1024 .f32

variable (A : Args F)

/-- The row block and the head an index of the context lies in. -/
def bOf (i : S1024x1024.Idx) : Fin 4 := ⟨(i 0).val / 256, by have : (i 0).val < 1024 := (i 0).isLt; omega⟩
def hOf (i : S1024x1024.Idx) : Fin 8 := ⟨(i 1).val / 128, by have : (i 1).val < 1024 := (i 1).isLt; omega⟩
/-- Where in the tile of its block and head it lies. -/
def inTile (i : S1024x1024.Idx) : S256x128.Idx :=
  ix2 ⟨(i 0).val % 256, Nat.mod_lt _ (by decide)⟩ ⟨(i 1).val % 128, Nat.mod_lt _ (by decide)⟩

/-- `Wq` in bf16, and the scaled queries of block `b`. -/
def wq16 : Vec F S1024x1024 .bf16 := k0_pay101 A.wq
def qv (b : Fin 4) : FVec F S256x1024 .bf16 := k0_pay1 (mX.view.readAt (Elt F) (rX b).toLoadRect A.x) (wq16 A)
/-- The context tile of block `b` and head `h`. -/
def tile (b : Fin 4) (h : Fin 8) : FVec F S256x128 .bf16 :=
  headv b h (qv A b) (mK.view.readAt (Elt F) (rK b h).toLoadRect A.k) (mV.view.readAt (Elt F) (rK b h).toLoadRect A.v)
/-- The context. -/
def ctx : Ctx F := fun i => tile A (bOf i) (hOf i) (inTile i)

/-- The output at the source, -/
def outSrc : Vec F S1x1024x1024 .f32 := k0_pay106 (ctx A) A.wo
/-- the output rows of block `b` elsewhere, -/
def outBlk (b : Fin 4) : FVec F S1x256x1024 .f32 := k0_pay102 (mCtx.view.readAt (Elt F) (rB b).toLoadRect (ctx A)) A.wo
/-- and the output elsewhere. -/
def outRows : Vec F S1x1024x1024 .f32 := fun i =>
  outBlk A ⟨(i 1).val / 256, by have : (i 1).val < 1024 := (i 1).isLt; omega⟩ (ix3 0 ⟨(i 1).val % 256, Nat.mod_lt _ (by decide)⟩ (i 2))

/-! ## The stores -/

/-- Block `b` of the context holds the first `n` heads. -/
def AgC (b : Fin 4) (n : ℕ) (f : Ctx F) : Prop := ∀ i ∈ blk b, (i 1).val < 128 * n → f i = ctx A i

theorem agC_zero (b : Fin 4) (f : Ctx F) : AgC A b 0 f := fun _ _ h => absurd h (Nat.not_lt_zero _)

theorem agC_full (b : Fin 4) (f : Ctx F) (h : AgC A b 8 f) : ∀ i ∈ blk b, f i = ctx A i := fun i hi => h i hi (i 1).isLt

theorem agC_write (b : Fin 4) (h : Fin 8) (f : Ctx F) (hf : AgC A b h.val f) :
    AgC A b (h.val + 1) ((mCtx.access (rH b h)).write (Elt F) f (tile A b h) Finset.univ) := by
  intro i hi hlt
  rw [mem_blk] at hi
  by_cases hh : 128 * h.val ≤ (i 1).val
  · have e : i = (mCtx.access (rH b h)).emb (inTile i) := by
      funext a
      refine Fin.ext ?_
      refine Eq.trans ?_ (ValueKit.view_emb_slice_whole_unit_val cc0_scratch0 _ _ _ (inTile i) a).symm
      match a with
      | ⟨0, _⟩ => show (i 0).val = 256 * b.val + (i 0).val % 256; omega
      | ⟨1, _⟩ => show (i 1).val = 128 * h.val + (i 1).val % 128; omega
    have hb : bOf i = b := Fin.ext (by show (i 0).val / 256 = b.val; omega)
    have hh' : hOf i = h := Fin.ext (by show (i 1).val / 128 = h.val; omega)
    refine (congrArg _ e).trans ?_
    refine (View.write_emb_of_mem _ _ (Finset.mem_univ _)).trans ?_
    show tile A b h (inTile i) = tile A (bOf i) (hOf i) (inTile i)
    rw [hb, hh']
  · refine (View.write_of_not_mem _ _ _ ?_).trans (hf i ((mem_blk b i).mpr hi) (by omega))
    intro hm
    have := (mem_head b h i).mp (by rw [View.setOn_univ] at hm; exact hm)
    omega

/-- The output buffer holds the first `n` row blocks. -/
def AgO (n : ℕ) (f : Vec F S1x1024x1024 .f32) : Prop := ∀ i, (i 1).val < 256 * n → f i = outRows A i

theorem agO_zero (f : Vec F S1x1024x1024 .f32) : AgO A 0 f := fun _ h => absurd h (Nat.not_lt_zero _)
theorem agO_full (f : Vec F S1x1024x1024 .f32) (h : AgO A 4 f) : f = outRows A := funext fun i => h i (i 1).isLt

theorem agO_write (b : Fin 4) (f : Vec F S1x1024x1024 .f32) (hf : AgO A b.val f) :
    AgO A (b.val + 1) ((mOut.access (rX b)).write (Elt F) f (outBlk A b) Finset.univ) := by
  intro i hlt
  have h0 : (i 0).val < 1 := (i 0).isLt
  by_cases hh : 256 * b.val ≤ (i 1).val
  · have e : i = (mOut.access (rX b)).emb (ix3 0 ⟨(i 1).val % 256, Nat.mod_lt _ (by decide)⟩ (i 2)) := by
      funext a
      refine Fin.ext ?_
      refine Eq.trans ?_ (ValueKit.view_emb_slice_whole_unit_val cc0_stg5_0 _ _ _ _ a).symm
      match a with
      | ⟨0, _⟩ => show (i 0).val = 0 + 0; omega
      | ⟨1, _⟩ => show (i 1).val = 256 * b.val + (i 1).val % 256; omega
      | ⟨2, _⟩ => show (i 2).val = 0 + (i 2).val; omega
    have hb : (⟨(i 1).val / 256, by have : (i 1).val < 1024 := (i 1).isLt; omega⟩ : Fin 4) = b := Fin.ext (by show (i 1).val / 256 = b.val; omega)
    refine (congrArg _ e).trans ?_
    refine (View.write_emb_of_mem _ _ (Finset.mem_univ _)).trans ?_
    show outBlk A b _ = outBlk A _ _
    rw [hb]
  · refine (View.write_of_not_mem _ _ _ ?_).trans (hf i (by omega))
    intro hm
    have := (mem_outRows b i).mp (by rw [View.setOn_univ] at hm; exact hm)
    omega

end Cert.KernelIdeal.Proto
-- ==== Proof.Steps.lean ====
module

public import proofs.«01_k».proof.Proof.Contents

@[expose] public section

set_option maxRecDepth 16384

/-!
# The steps of the body

One statement per action of the body: what a device holds before it and after it.
-/

noncomputable section

namespace Cert.KernelIdeal.Proto

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Flat

variable {F : FTy → Type} [FloatOps F]

local notation "𝕄" => MT nD τ sig Unit (Elt F) ℕ UU ℕ

abbrev 𝒱₀ : Variants := Variants.none

/-! ## The records every device keeps -/

/-- The broadcast's semaphores of one device: ready, send, receive. -/
abbrev SI : Type := Fin 3 ⊕ (Fin 3 × Fin 10) ⊕ Fin 10
def semOf : SI → SemLoc sig
  | .inl j => .reg (readySem j)
  | .inr (.inl jk) => .dma (sendSem jk.1 jk.2)
  | .inr (.inr k) => .dma (recvSem k)
abbrev cellOfI (p : Dev nD × SI) : GSem nD τ sig := ((p.1 : Thread nD τ), semOf p.2)

variable (C : Ctx F) (K : Dev nD × SI → ℕ)

/-- Every cell's invariant, and that its round 0 has been reached. -/
def records : sProp 𝕄 :=
  iprop((bigSep Finset.univ fun p => cellInv ER (Rd C) (K p) (cellOfI p)) ∗ bigSep Finset.univ fun p : Dev nD × SI => reached ER (cellOfI p) 0)

instance records_persistent : BI.Persistent (records C K) := by unfold records; infer_instance

/-- The records and the levels. -/
def env : sProp 𝕄 := iprop(records C K ∗ levAts L lv)

instance env_persistent : BI.Persistent (env C K) := by unfold env; infer_instance

theorem inv_at (p : Dev nD × SI) :
    (bigSep Finset.univ fun p => (cellInv ER (Rd C) (K p) (cellOfI p) : sProp 𝕄)) ⊢ cellInv ER (Rd C) (K p) (cellOfI p) :=
  bigSep_elim (Finset.mem_univ p)
omit [FloatOps F] in
theorem reached_at (p : Dev nD × SI) :
    (bigSep Finset.univ fun p : Dev nD × SI => (reached ER (cellOfI p) 0 : sProp 𝕄)) ⊢ reached ER (cellOfI p) 0 :=
  bigSep_elim (Finset.mem_univ p)

theorem env_inv (p : Dev nD × SI) : env C K ⊢ cellInv ER (Rd C) (K p) (cellOfI p) := by
  unfold env records
  iintro ⟨⟨H, -⟩, -⟩
  iapply (inv_at C K p) $$ H
theorem env_reached (p : Dev nD × SI) : env C K ⊢ (reached ER (cellOfI p) 0 : sProp 𝕄) := by
  unfold env records
  iintro ⟨⟨-, H⟩, -⟩
  iapply (reached_at p) $$ H
theorem env_lev : env C K ⊢ (levAts L lv : sProp 𝕄) := by
  unfold env
  iintro ⟨-, H⟩
  iexact H

/-! ## Triples -/

/-- Device `c`, keeping the records, gets from `P` to `Q` by running `p`. -/
def Tri (c : Dev nD) (P : sProp 𝕄) (p : PB F PUnit) (Q : sProp 𝕄) : Prop :=
  ∀ Φ : PUnit → sProp 𝕄, iprop(env C K ∗ P ∗ (Q -∗ Φ ⟨⟩)) ⊢ wp frame (wpE (defs₀ (F := F)) 𝒱₀ (c : Thread nD τ) none) Set.univ p Φ

variable {C K}
variable {c : Dev nD}

theorem Tri.conseq {P P' Q Q' : sProp 𝕄} {p : PB F PUnit} (h : Tri C K c P p Q) (hP : P' ⊢ P) (hQ : Q ⊢ Q') : Tri C K c P' p Q' := by
  intro Φ
  iintro ⟨He, HP, Hk⟩
  iapply (h Φ)
  isplitl [He]; · iexact He
  isplitl [HP]; · iapply hP; iexact HP
  iintro HQ
  iapply Hk
  iapply hQ; iexact HQ

theorem Tri.pre {P P' Q : sProp 𝕄} {p : PB F PUnit} (h : Tri C K c P p Q) (hP : P' ⊢ P) : Tri C K c P' p Q := h.conseq hP (Entails.refl _)
theorem Tri.post {P Q Q' : sProp 𝕄} {p : PB F PUnit} (h : Tri C K c P p Q) (hQ : Q ⊢ Q') : Tri C K c P p Q' := h.conseq (Entails.refl _) hQ

theorem Tri.frame {P Q : sProp 𝕄} {p : PB F PUnit} (h : Tri C K c P p Q) (R : sProp 𝕄) : Tri C K c iprop(P ∗ R) p iprop(Q ∗ R) := by
  intro Φ
  iintro ⟨He, ⟨HP, HR⟩, Hk⟩
  iapply (h Φ)
  isplitl [He]; · iexact He
  isplitl [HP]; · iexact HP
  iintro HQ
  iapply Hk
  isplitl [HQ] <;> iassumption

theorem Tri.nil (P : sProp 𝕄) : Tri C K c P (seq []) P := by
  intro Φ
  unfold seq
  rw [wp_ret]
  iintro ⟨-, HP, Hk⟩
  imodintro
  iapply Hk; iexact HP

theorem Tri.cons {P Q R : sProp 𝕄} {p : PB F PUnit} {l : List (PB F PUnit)} (h : Tri C K c P p Q) (hl : Tri C K c Q (seq l) R) :
    Tri C K c P (seq (p :: l)) R := by
  intro Φ
  unfold seq
  rw [wp_bind]
  iintro ⟨#He, HP, Hk⟩
  iapply (h _)
  isplitr; · iexact He
  isplitl [HP]; · iexact HP
  iintro HQ
  iapply (hl Φ)
  isplitr; · iexact He
  isplitl [HQ] <;> iassumption

theorem Tri.one {P Q : sProp 𝕄} {p : PB F PUnit} (h : Tri C K c P p Q) : Tri C K c P (seq [p]) Q := h.cons (Tri.nil Q)

theorem seq_append (l l' : List (PB F PUnit)) : seq (l ++ l') = seq l >>= fun _ => seq l' := by
  induction l with
  | nil => rfl
  | cons p l ih =>
    show (p >>= fun _ => seq (l ++ l')) = (p >>= fun _ => seq l) >>= fun _ => seq l'
    rw [ih, bind_assoc]

theorem Tri.append {P Q R : sProp 𝕄} {l l' : List (PB F PUnit)} (h : Tri C K c P (seq l) Q) (h' : Tri C K c Q (seq l') R) :
    Tri C K c P (seq (l ++ l')) R := by
  intro Φ
  rw [seq_append, wp_bind]
  iintro ⟨#He, HP, Hk⟩
  iapply (h _)
  isplitr; · iexact He
  isplitl [HP]; · iexact HP
  iintro HQ
  iapply (h' Φ)
  isplitr; · iexact He
  isplitl [HQ] <;> iassumption

/-- A list of actions, each with its own share of the resources, and a resource that changes along the list. -/
theorem Tri.list {α : Type} (I : List α → sProp 𝕄) (P Q : α → sProp 𝕄) (f : α → List (PB F PUnit)) (l : List α)
    (h : ∀ x l', x ∈ l → Tri C K c iprop(I (x :: l') ∗ P x) (seq (f x)) iprop(I l' ∗ Q x)) (l' : List α) :
    Tri C K c iprop(I (l ++ l') ∗ bigSepL l P) (seq (l.flatMap f)) iprop(I l' ∗ bigSepL l Q) := by
  induction l with
  | nil => exact Tri.nil _
  | cons x l ih =>
    rw [List.flatMap_cons, bigSepL_cons', bigSepL_cons']
    refine Tri.append (Q := iprop((I (l ++ l') ∗ bigSepL l P) ∗ Q x)) ?_ ?_
    · refine ((h x (l ++ l') List.mem_cons_self).frame (bigSepL l P)).conseq ?_ ?_
      · rw [List.cons_append]; iintro ⟨HI, HP, Hl⟩
        isplitl [HI HP]; · isplitl [HI] <;> iassumption
        iexact Hl
      · iintro ⟨⟨HI, HQ⟩, Hl⟩
        isplitl [HI Hl]; · isplitl [HI] <;> iassumption
        iexact HQ
    · refine ((ih fun y l'' hy => h y l'' (List.mem_cons_of_mem _ hy)).frame (Q x)).post ?_
      iintro ⟨⟨HI, Hl⟩, HQ⟩
      isplitl [HI]; · iexact HI
      isplitl [HQ] <;> iassumption

/-! ## What is owed -/

/-- Device `c` owes the tally of `l`. -/
def owesE (c : Dev nD) (l : List (GSem nD τ sig × ℕ)) : sProp 𝕄 := iprop(∃ W, owes (c : Thread nD τ) (owedL l) W)

/-! ## The signal and the copies -/

theorem tri_signal (c : Dev nD) (hc : c ≠ 0) (l : List (GSem nD τ sig × ℕ)) :
    Tri C K c iprop(owesE c ((readyCell (port c) (par c), 1) :: l) ∗ dutyTok ER (readyCell (port c) (par c)) 0 () ∗ pieces c)
      (signalP (port c) (par c)) (owesE c l) := by
  intro Φ
  unfold signalP semSignalWord owesE
  iintro ⟨#He, ⟨⟨%W, HO⟩, Ht, Hp⟩, Hk⟩
  iapply (Rounds.wp_signal 𝒱₀ ER (Rd C) (c : Thread nD τ) none (dst := (par c : Thread nD τ)) (κ := K (par c, .inl (port c)))
      (by rw [duties_used C _ _ (used_ready _ _ (kid_port c hc).2)]; exact Finset.mem_singleton_self _)
      ((amount_ready C (port c) (par c) ()).trans (by decide)) () (owedL l) rfl) $$ [HO Ht Hp]
  · isplitr; · iapply (env_inv C K (par c, .inl (port c))); iexact He
    isplitl [HO]; · iexact HO
    isplitl [Ht]; · iexact Ht
    isplitl [Hp]; · rw [payload_ready, (kid_port c hc).1]; iexact Hp
    iapply (env_reached C K (par c, .inl (port c))); iexact He
  iintro HO
  rw [wp_ret]
  imodintro
  iapply Hk
  iexists W; iexact HO

theorem tri_ready (c : Dev nD) (j : Fin 3) (hj : j ∈ ports c) (l : List (GSem nD τ sig × ℕ)) (hl : ∀ p ∈ l, p.1.1.2 = .tc ∧ 1 < lvl p.1) :
    Tri C K c iprop(owesE c l ∗ atPos ER (readyCell j c) 0 ∅ 0 ∗ cred (tallyAt (readyCell j c) () 1))
      (readyP j) iprop(owesE c l ∗ semVal (readyCell j c) 0 ∗ pieces (kid j c)) := by
  intro Φ
  unfold readyP semWaitWord owesE
  iintro ⟨#He, ⟨⟨%W, HO⟩, Hat, Hc⟩, Hk⟩
  iapply (Rounds.wp_wait_rest_token 𝒱₀ ER (Rd C) (c : Thread nD τ) none (κ := K (c, .inl j))
      (wpE_semWait_eq 𝒱₀ (c : Thread nD τ) none Set.univ) (Set.mem_univ _) () (O := owedL l) (W := W) (R := 0) (m := 0) (T := ∅)
      (by rw [expect_used C c _ (used_ready j c hj), amount_ready]; decide)) $$ [HO Hat Hc]
  · isplitr; · iapply (env_inv C K (c, .inl j)); iexact He
    isplitl [Hc]; · iexact Hc
    isplitl [HO]; · iexact HO
    isplitr; · iapply (mayWait c (.reg (readySem j)) l hl); iapply (env_lev C K); iexact He
    iexact Hat
  iintro ⟨HO, Hat, -, Hpay⟩
  ihave Hp := (Entails.of_eq ((rest_used C c _ (used_ready j c hj)).trans (payload_ready C j c ()))) $$ Hpay
  imod (Rounds.cell_close ER (Rd C) (Set.mem_univ (K (c, .inl j))) (fun h => h) (R := 0 + 1) (duties_later C (readyCell j c))) $$ [Hat] with Hz
  · isplitr; · iapply (env_inv C K (c, .inl j)); iexact He
    iexact Hat
  rw [wp_ret]
  imodintro
  iapply Hk
  isplitl [HO]; · iexists _; iexact HO
  isplitl [Hz] <;> iassumption

theorem tri_recv (c : Dev nD) (hc : c ≠ 0) (k : Fin 10) (l : List (GSem nD τ sig × ℕ)) (hl : ∀ p ∈ l, p.1.1.2 = .tc ∧ 1 + depth c < lvl p.1) :
    Tri C K c iprop(owesE c l ∗ atPos ER (recvCell k c) 0 ∅ 0 ∗ cred (tallyAt (recvCell k c) () (amt k)))
      (recvP k) iprop(owesE c l ∗ semVal (recvCell k c) 0 ∗ pts k fullShare c C) := by
  intro Φ
  unfold recvP Prog.lift owesE
  iintro ⟨#He, ⟨⟨%W, HO⟩, Hat, Hc⟩, Hk⟩
  iapply (Rounds.wp_wait_rest_token 𝒱₀ ER (Rd C) (c : Thread nD τ) none (κ := K (c, .inr (.inr k)))
      (wpE_waitDma2_eq 𝒱₀ (c : Thread nD τ) none Set.univ) (Set.mem_univ _) () (O := owedL l) (W := W) (R := 0) (m := 0) (T := ∅)
      (by rw [expect_used C c _ (used_recv k c hc), amount_recv, Nat.zero_add]; rfl)) $$ [HO Hat Hc]
  · isplitr; · iapply (env_inv C K (c, .inr (.inr k))); iexact He
    isplitl [Hc]; · iexact Hc
    isplitl [HO]; · iexact HO
    isplitr
    · iapply (mayWait c (.dma (recvSem k)) l (fun p hp => by rw [lvl_recv]; exact hl p hp)); iapply (env_lev C K); iexact He
    iexact Hat
  iintro ⟨HO, Hat, -, Hpay⟩
  ihave Hp := (Entails.of_eq ((rest_used C c _ (used_recv k c hc)).trans (payload_recv C k c ()))) $$ Hpay
  imod (Rounds.cell_close ER (Rd C) (Set.mem_univ (K (c, .inr (.inr k)))) (fun h => h) (R := 0 + 1) (duties_later C (recvCell k c))) $$ [Hat] with Hz
  · isplitr; · iapply (env_inv C K (c, .inr (.inr k))); iexact He
    iexact Hat
  rw [wp_ret]
  imodintro
  iapply Hk
  isplitl [HO]; · iexists _; iexact HO
  isplitl [Hz] <;> iassumption

/-- What a device holds of a copy it is waiting for, and once it has left. -/
def pend (c : Dev nD) (j : Fin 3) (k : Fin 10) : sProp 𝕄 :=
  iprop(atPos ER (sendCell j k c) 0 ∅ 0 ∗ cred (tallyAt (sendCell j k c) () (amt k)))
def sent (C : Ctx F) (c : Dev nD) (j : Fin 3) (k : Fin 10) : sProp 𝕄 := iprop(semVal (sendCell j k c) 0 ∗ pts k (shr j) c C)

theorem tri_sent (c : Dev nD) (j : Fin 3) (hj : j ∈ ports c) (k : Fin 10) :
    Tri C K c iprop(owesE c [] ∗ pend c j k) (sentP j k) iprop(owesE c [] ∗ sent C c j k) := by
  intro Φ
  unfold sentP Prog.lift owesE pend sent
  iintro ⟨#He, ⟨⟨%W, HO⟩, Hat, Hc⟩, Hk⟩
  iapply (Rounds.wp_wait_rest_token 𝒱₀ ER (Rd C) (c : Thread nD τ) none (κ := K (c, .inr (.inl (j, k))))
      (wpE_waitDma2_eq 𝒱₀ (c : Thread nD τ) none Set.univ) (Set.mem_univ _) () (O := owedL []) (W := W) (R := 0) (m := 0) (T := ∅)
      (by rw [expect_used C c _ (used_send j k c hj), amount_send, Nat.zero_add]; rfl)) $$ [HO Hat Hc]
  · isplitr; · iapply (env_inv C K (c, .inr (.inl (j, k)))); iexact He
    isplitl [Hc]; · iexact Hc
    isplitl [HO]; · iexact HO
    isplitr
    · iapply (mayWait c (.dma (sendSem j k)) [] (fun p hp => absurd hp List.not_mem_nil)); iapply (env_lev C K); iexact He
    iexact Hat
  iintro ⟨HO, Hat, -, Hpay⟩
  ihave Hp := (Entails.of_eq ((rest_used C c _ (used_send j k c hj)).trans (payload_send C j k c ()))) $$ Hpay
  imod (Rounds.cell_close ER (Rd C) (Set.mem_univ (K (c, .inr (.inl (j, k))))) (fun h => h) (R := 0 + 1) (duties_later C (sendCell j k c))) $$ [Hat] with Hz
  · isplitr; · iapply (env_inv C K (c, .inr (.inl (j, k)))); iexact He
    iexact Hat
  rw [wp_ret]
  imodintro
  iapply Hk
  isplitl [HO]; · iexists _; iexact HO
  isplitl [Hz] <;> iassumption

/-- What a device holds of a copy it has not made: its send semaphore's position, the right to both its signals, -/
def tok (c : Dev nD) (j : Fin 3) (k : Fin 10) : sProp 𝕄 :=
  iprop(atPos ER (sendCell j k c) 0 ∅ 0 ∗ dutyTok ER (sendCell j k c) 0 () ∗ dutyTok ER (recvCell k (kid j c)) 0 ())
/-- and the rows it lands on. -/
def ticket (c : Dev nD) (j : Fin 3) (k : Fin 10) : sProp 𝕄 := iprop(tok c j k ∗ ∃ f : Ctx F, pts k fullShare (kid j c) f)

theorem landed (k : Fin 10) (d : Dev nD) (f : Ctx F) :
    (((mC k).view.loc (d : Thread nD τ) ↦[(mC k).view.set]{fullShare} (mC k).view.write (Elt F) f ((mC k).view.read (Elt F) C) Finset.univ) : sProp 𝕄)
      = pts k fullShare d C := by
  unfold pts
  refine pointsTo_congr fun i hi => ?_
  rw [View.write_read_eq_piecewise]
  exact Finset.piecewise_eq_of_mem _ _ _ hi

theorem tri_send (c : Dev nD) (j : Fin 3) (hj : j ∈ ports c) (k : Fin 10) (l : List (GSem nD τ sig × ℕ)) :
    Tri C K c iprop(owesE c (owedSend c (j, k) :: l) ∗ pts k (shr j) c C ∗ ticket c j k) (sendP j k (kid j c)) iprop(owesE c l ∗ pend c j k) := by
  intro Φ
  unfold sendP Prog.lift owesE ticket tok pend
  iintro ⟨#He, ⟨⟨%W, HO⟩, Hp, ⟨⟨Hat, Hts, Htr⟩, ⟨%f, Hf⟩⟩⟩, Hk⟩
  have hd : (Dev.tc (kid j c) : Thread nD τ) = (kid j c : Thread nD τ) := rfl
  unfold pts
  iapply (Rounds.wp_send_pointsTo 𝒱₀ ER (Rd C) (c : Thread nD τ) none (κ₁ := K (c, .inr (.inl (j, k)))) (κ₂ := K (kid j c, .inr (.inr k)))
    (r₁ := 0) (r₂ := 0) (d₁ := ()) (d₂ := ()) (fd := f)
    (by rw [duties_used C _ _ (used_send j k c hj)]; exact Finset.mem_singleton_self _)
    (by rw [duties_used C _ _ (used_recv k _ (kid_ne c j hj))]; exact Finset.mem_singleton_self _)
    () () (amt k) rfl (amount_send C j k c ()) (amount_recv C k (kid j c) ()) (owedL l) rfl (W := W)
    (by rw [payload_send]; exact BI.Entails.refl _)
    (by rw [payload_recv]; exact Entails.of_eq (landed k (kid j c) f))) $$ [HO Hp Hts Htr Hf]
  · isplitr; · iapply (env_inv C K (c, .inr (.inl (j, k)))); iexact He
    isplitr; · iapply (env_inv C K (kid j c, .inr (.inr k))); iexact He
    isplitl [Hp]; · iexact Hp
    isplitl [Hf]; · iexact Hf
    isplitl [HO]; · iexact HO
    isplitl [Hts]; · iexact Hts
    isplitr; · iapply (env_reached C K (c, .inr (.inl (j, k)))); iexact He
    isplitl [Htr]; · iexact Htr
    iapply (env_reached C K (kid j c, .inr (.inr k))); iexact He
  iintro ⟨Hc, HO⟩
  rw [wp_ret]
  imodintro
  iapply Hk
  isplitl [HO]; · iexists W; iexact HO
  isplitl [Hat] <;> iassumption

end Cert.KernelIdeal.Proto
-- ==== Proof.Compute.lean ====
module

public import proofs.«01_k».proof.Proof.Steps

@[expose] public section

set_option maxRecDepth 16384

/-!
# The computing steps of the body

The cast of `Wq`, the context of one row block, and the output.
-/

noncomputable section

namespace Cert.KernelIdeal.Proto

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Flat

variable {F : FTy → Type} [FloatOps F]

local notation "𝕄" => MT nD τ sig Unit (Elt F) ℕ UU ℕ

variable {C : Ctx F} {K : Dev nD × SI → ℕ} (A : Args F) (c : Dev nD)

/-- Device `c`'s whole buffer `b`, contents `f`. -/
def held (b : Ref sig .tc) (f : b.ty.Contents (Elt F)) : sProp 𝕄 := (c : Thread nD τ).loc b ↦{fullShare} f

/-- Row block `b` of the context. -/
def blkPts (b : Fin 4) (q : PosShare TreeShare) (f : Ctx F) : sProp 𝕄 := mCtx.view.loc (c : Thread nD τ) ↦[blk b]{q} f

theorem hz2 : (![0, 0] : Fin 2 → Nat) = fun _ => 0 := funext fun a => by fin_cases a <;> rfl
theorem hz3 : (![0, 0, 0] : Fin 3 → Nat) = fun _ => 0 := funext fun a => by fin_cases a <;> rfl

theorem read_wq (f : Vec F S1024x1024 .f32) : mWq.view.readAt (Elt F) rAll.toLoadRect f = f := Memref.readAt_unit_zero (Elt F) cc0_stg1_0 hz2 _ f
theorem read_wo (f : Vec F S1024x1024 .f32) : mWo.view.readAt (Elt F) rAll.toLoadRect f = f := Memref.readAt_unit_zero (Elt F) cc0_stg4_0 hz2 _ f
theorem read_wq16 (f : Vec F S1024x1024 .bf16) : mWq16.view.readAt (Elt F) rAll.toLoadRect f = f := Memref.readAt_unit_zero (Elt F) cc0_scratch1 hz2 _ f
theorem read_ctx (f : Vec F S1024x1024 .bf16) : mCtx.view.readAt (Elt F) rAll.toLoadRect f = f := Memref.readAt_unit_zero (Elt F) cc0_scratch0 hz2 _ f
theorem write_wq16 (f w : Vec F S1024x1024 .bf16) : (mWq16.access rAll : View sig .tc _ _ _).write (Elt F) f w Finset.univ = w :=
  Memref.write_access_unit_zero_univ (Elt F) cc0_scratch1 hz2 _ f w
theorem write_out (f w : Vec F S1x1024x1024 .f32) : (mOut.access rAll3 : View sig .tc _ _ _).write (Elt F) f w Finset.univ = w :=
  Memref.write_access_unit_zero_univ (Elt F) cc0_stg5_0 hz3 _ f w

/-- The source casts `Wq`. -/
theorem tri_wq : Tri C K c iprop(held c cc0_stg1_0 A.wq ∗ ∃ g, held c cc0_scratch1 g) wqP
    iprop(held c cc0_stg1_0 A.wq ∗ held c cc0_scratch1 (wq16 A)) := by
  intro Φ
  unfold wqP held
  simp only [Prog.lift, Prog.bind_op, Prog.bind_ret]
  iintro ⟨-, ⟨Hw, ⟨%g, Hg⟩⟩, Hk⟩
  iapply (wp_load 𝒱₀ (c : Thread nD τ) none Set.univ (m := mWq) (Finset.subset_univ _)) $$ Hw; iintro Hw
  iapply (wp_load 𝒱₀ (c : Thread nD τ) none Set.univ (m := mWq16) (Finset.subset_univ _)) $$ Hg; iintro Hg
  iapply (wp_store 𝒱₀ (c : Thread nD τ) none Set.univ (m := mWq16) (r := rAll) (Mk := Finset.univ) (Finset.subset_univ _)) $$ Hg; iintro Hg
  rw [write_wq16, read_wq, wp_ret]
  imodintro
  iapply Hk
  isplitl [Hw]; · iexact Hw
  iexact Hg

/-- The first `n` heads of block `b` are in the context. -/
def ctxUpTo (b : Fin 4) (n : ℕ) : sProp 𝕄 := iprop(∃ f : Ctx F, ⌜AgC A b n f⌝ ∗ blkPts c b fullShare f)

theorem head_subset (b : Fin 4) (h : Fin 8) : (mCtx.access (rH b h)).set ⊆ blk b := fun i hi =>
  (mem_blk b i).mpr ((mem_head b h i).mp hi).1

theorem tri_head (b : Fin 4) (h : Fin 8) (n : ℕ) (hn : n = h.val) :
    Tri C K c iprop(held c cc0_stg2_0 A.k ∗ held c cc0_stg3_0 A.v ∗ ctxUpTo A c b n) (headP b (qv A b) h)
      iprop(held c cc0_stg2_0 A.k ∗ held c cc0_stg3_0 A.v ∗ ctxUpTo A c b (n + 1)) := by
  subst hn
  intro Φ
  unfold headP held ctxUpTo blkPts
  simp only [Prog.lift, Prog.bind_op, Prog.bind_ret]
  iintro ⟨-, ⟨Hw, Hv, ⟨%f, %hf, Hf⟩⟩, Hk⟩
  iapply (wp_load 𝒱₀ (c : Thread nD τ) none Set.univ (m := mK) (Finset.subset_univ _)) $$ Hw; iintro Hw
  iapply (wp_load 𝒱₀ (c : Thread nD τ) none Set.univ (m := mV) (Finset.subset_univ _)) $$ Hv; iintro Hv
  iapply (wp_load_rect 𝒱₀ (c : Thread nD τ) none Set.univ (m := mCtx) (head_subset b h)) $$ Hf; iintro Hf
  iapply (wp_store 𝒱₀ (c : Thread nD τ) none Set.univ (m := mCtx) (r := rH b h) (Mk := Finset.univ) (head_subset b h)) $$ Hf; iintro Hf
  rw [wp_ret]
  imodintro
  iapply Hk
  isplitl [Hw]; · iexact Hw
  isplitl [Hv]; · iexact Hv
  iexists _
  isplitr
  · ipureintro; exact agC_write A b h f hf
  iexact Hf

/-- The context of block `b`. -/
theorem tri_block (b : Fin 4) :
    Tri C K c iprop((held c cc0_stg0_0 A.x ∗ held c cc0_scratch1 (wq16 A)) ∗ held c cc0_stg2_0 A.k ∗ held c cc0_stg3_0 A.v ∗ ∃ f, blkPts c b fullShare f)
      (blockP b)
      iprop((held c cc0_stg0_0 A.x ∗ held c cc0_scratch1 (wq16 A)) ∗ held c cc0_stg2_0 A.k ∗ held c cc0_stg3_0 A.v ∗ blkPts c b fullShare (ctx A)) := by
  have heads : Tri C K c iprop(held c cc0_stg2_0 A.k ∗ held c cc0_stg3_0 A.v ∗ ctxUpTo A c b 0) (seq ([0, 1, 2, 3, 4, 5, 6, 7].map (headP b (qv A b))))
      iprop(held c cc0_stg2_0 A.k ∗ held c cc0_stg3_0 A.v ∗ ctxUpTo A c b 8) :=
    (tri_head A c b 0 0 rfl).cons <| (tri_head A c b 1 1 rfl).cons <| (tri_head A c b 2 2 rfl).cons <| (tri_head A c b 3 3 rfl).cons <|
    (tri_head A c b 4 4 rfl).cons <| (tri_head A c b 5 5 rfl).cons <| (tri_head A c b 6 6 rfl).cons <| (tri_head A c b 7 7 rfl).one
  intro Φ
  unfold blockP
  simp only [Prog.lift, Prog.bind_op, Prog.bind_ret]
  iintro ⟨#He, ⟨⟨Hx, Hq⟩, Hw, Hv, ⟨%f, Hf⟩⟩, Hk⟩
  unfold held
  iapply (wp_load 𝒱₀ (c : Thread nD τ) none Set.univ (m := mX) (Finset.subset_univ _)) $$ Hx; iintro Hx
  iapply (wp_load 𝒱₀ (c : Thread nD τ) none Set.univ (m := mWq16) (Finset.subset_univ _)) $$ Hq; iintro Hq
  rw [read_wq16]
  unfold held at heads
  iapply (heads Φ)
  isplitr; · iexact He
  isplitl [Hw Hv Hf]
  · isplitl [Hw]; · iexact Hw
    isplitl [Hv]; · iexact Hv
    unfold ctxUpTo
    iexists f
    isplitr
    · ipureintro; exact agC_zero A b f
    iexact Hf
  iintro ⟨Hw, Hv, Hf⟩
  iapply Hk
  isplitl [Hx Hq]
  · isplitl [Hx]; · iexact Hx
    iexact Hq
  isplitl [Hw]; · iexact Hw
  isplitl [Hv]; · iexact Hv
  unfold ctxUpTo
  icases Hf with ⟨%g, %hg, Hf⟩
  unfold blkPts
  rw [show (mCtx.view.loc (c : Thread nD τ) ↦[blk b]{fullShare} (ctx A) : sProp 𝕄) = (mCtx.view.loc (c : Thread nD τ) ↦[blk b]{fullShare} g)
    from pointsTo_congr fun i hi => (agC_full A b g hg i hi).symm]
  iexact Hf

/-- The first `n` row blocks of the output are there. -/
def outUpTo (n : ℕ) : sProp 𝕄 := iprop(∃ f : Vec F S1x1024x1024 .f32, ⌜AgO A n f⌝ ∗ held c cc0_stg5_0 f)

/-- The output rows of block `b`. -/
theorem tri_outRows (b : Fin 4) (q : PosShare TreeShare) (n : ℕ) (hn : n = b.val) :
    Tri C K c iprop(blkPts c b q (ctx A) ∗ held c cc0_stg4_0 A.wo ∗ outUpTo A c n) (outRowsP b)
      iprop(blkPts c b q (ctx A) ∗ held c cc0_stg4_0 A.wo ∗ outUpTo A c (n + 1)) := by
  subst hn
  intro Φ
  unfold outRowsP held outUpTo blkPts held
  simp only [Prog.lift, Prog.bind_op, Prog.bind_ret]
  iintro ⟨-, ⟨Hc, Hw, ⟨%f, %hf, Hf⟩⟩, Hk⟩
  iapply (wp_load_rect 𝒱₀ (c : Thread nD τ) none Set.univ (m := mCtx) (r := rB b) (S := blk b) (subset_refl _)) $$ Hc; iintro Hc
  iapply (wp_load 𝒱₀ (c : Thread nD τ) none Set.univ (m := mWo) (Finset.subset_univ _)) $$ Hw; iintro Hw
  iapply (wp_load 𝒱₀ (c : Thread nD τ) none Set.univ (m := mOut) (Finset.subset_univ _)) $$ Hf; iintro Hf
  iapply (wp_store 𝒱₀ (c : Thread nD τ) none Set.univ (m := mOut) (r := rX b) (Mk := Finset.univ) (Finset.subset_univ _)) $$ Hf; iintro Hf
  rw [wp_ret, read_wo]
  imodintro
  iapply Hk
  isplitl [Hc]; · iexact Hc
  isplitl [Hw]; · iexact Hw
  iexists _
  isplitr
  · ipureintro; exact agO_write A b f hf
  iexact Hf

/-- The output at the source. -/
theorem tri_outAll (q : PosShare TreeShare) :
    Tri C K c iprop((mCtx.view.loc (c : Thread nD τ) ↦{q} (ctx A)) ∗ held c cc0_stg4_0 A.wo ∗ ∃ f, held c cc0_stg5_0 f) outAllP
      iprop((mCtx.view.loc (c : Thread nD τ) ↦{q} (ctx A)) ∗ held c cc0_stg4_0 A.wo ∗ held c cc0_stg5_0 (outSrc A)) := by
  intro Φ
  unfold outAllP held
  simp only [Prog.lift, Prog.bind_op, Prog.bind_ret]
  iintro ⟨-, ⟨Hc, Hw, ⟨%f, Hf⟩⟩, Hk⟩
  iapply (wp_load 𝒱₀ (c : Thread nD τ) none Set.univ (m := mCtx) (Finset.subset_univ _)) $$ Hc; iintro Hc
  iapply (wp_load 𝒱₀ (c : Thread nD τ) none Set.univ (m := mWo) (Finset.subset_univ _)) $$ Hw; iintro Hw
  iapply (wp_load 𝒱₀ (c : Thread nD τ) none Set.univ (m := mOut) (Finset.subset_univ _)) $$ Hf; iintro Hf
  iapply (wp_store 𝒱₀ (c : Thread nD τ) none Set.univ (m := mOut) (r := rAll3) (Mk := Finset.univ) (Finset.subset_univ _)) $$ Hf; iintro Hf
  rw [wp_ret, read_wo, read_ctx, write_out]
  imodintro
  iapply Hk
  isplitl [Hc]; · iexact Hc
  isplitl [Hw]; · iexact Hw
  iexact Hf

end Cert.KernelIdeal.Proto
-- ==== Proof.Lists.lean ====
module

public import proofs.«01_k».proof.Proof.Compute

@[expose] public section

set_option maxRecDepth 16384

/-!
# The context scratch in chunks and shares
-/

noncomputable section

namespace Cert.KernelIdeal.Proto

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Flat

variable {F : FTy → Type} [FloatOps F]

local notation "𝕄" => MT nD τ sig Unit (Elt F) ℕ UU ℕ

/-! ## Listed chains -/

section Lists
variable {α β : Type}

theorem eq_of_bi {P Q : sProp 𝕄} (h : P ⊣⊢ Q) : P = Q := h.1.antisymm h.2

theorem sep_sep_sep (P Q R S : sProp 𝕄) : iprop((P ∗ Q) ∗ R ∗ S) ⊢ iprop((P ∗ R) ∗ Q ∗ S) := by
  iintro ⟨⟨H1, H2⟩, H3, H4⟩
  isplitl [H1 H3]; · isplitl [H1] <;> iassumption
  isplitl [H2] <;> iassumption

theorem bigSepL_sep (l : List α) (P Q : α → sProp 𝕄) : (bigSepL l fun x => iprop(P x ∗ Q x)) = iprop(bigSepL l P ∗ bigSepL l Q) := by
  induction l with
  | nil => exact (equiv_iff.mp emp_sep).symm
  | cons x l ih =>
    rw [bigSepL_cons', bigSepL_cons', bigSepL_cons', ih]
    exact (sep_sep_sep _ _ _ _).antisymm (sep_sep_sep _ _ _ _)

theorem bigSepL_emp (l : List α) : (bigSepL l fun _ => (BI.emp : sProp 𝕄)) = BI.emp := by
  induction l with
  | nil => rfl
  | cons x l ih => rw [bigSepL_cons', ih]; exact equiv_iff.mp emp_sep

theorem bigSepL_swap (l : List α) (l' : List β) (P : α → β → sProp 𝕄) :
    (bigSepL l fun x => bigSepL l' fun y => P x y) = bigSepL l' fun y => bigSepL l fun x => P x y := by
  induction l with
  | nil => exact (bigSepL_emp l').symm
  | cons x l ih =>
    rw [bigSepL_cons', ih, ← bigSepL_sep]
    congr 1; funext y; rw [bigSepL_cons']

theorem bigSepL_congr (l : List α) (P Q : α → sProp 𝕄) (h : ∀ x ∈ l, P x = Q x) : bigSepL l P = bigSepL l Q := by
  induction l with
  | nil => rfl
  | cons x l ih =>
    rw [bigSepL_cons', bigSepL_cons', h x List.mem_cons_self, ih fun y hy => h y (List.mem_cons_of_mem _ hy)]

end Lists

/-! ## Chunks -/

theorem allK_eq : allK = chunks 0 ++ (chunks 1 ++ (chunks 2 ++ (chunks 3 ++ []))) := rfl

theorem univ_allK (P : Fin 10 → sProp 𝕄) : bigSep Finset.univ P = bigSepL allK P :=
  bigSep_univ_eq_bigSepL allK (by decide) (by decide) P
theorem univ_allJ (P : Fin 3 → sProp 𝕄) : bigSep Finset.univ P = bigSepL allJ P :=
  bigSep_univ_eq_bigSepL allJ (by decide) (by decide) P

variable (c : Dev nD)

theorem pts_eq (k : Fin 10) (q : PosShare TreeShare) (f : Ctx F) :
    (pts k q c f : sProp 𝕄) = (mCtx.view.loc (c : Thread nD τ) ↦[(mC k).view.set]{q} f) := rfl

theorem chunks_nodup : ∀ b : Fin 4, (chunks b).Nodup := by decide

/-- The elements of chunk `k`, as elements of device `c`'s scratch. -/
def chunkSet (k : Fin 10) : Finset (Idx (mCtx.view.loc (c : Thread nD τ))) := (mC k).view.set

theorem pts_chunkSet (k : Fin 10) (q : PosShare TreeShare) (f : Ctx F) :
    (pts k q c f : sProp 𝕄) = (mCtx.view.loc (c : Thread nD τ) ↦[chunkSet c k]{q} f) := rfl

theorem pointsTo_chunks (S : Finset (Fin 10)) (X : Finset (Idx (mCtx.view.loc (c : Thread nD τ)))) (hX : ∀ i, i ∈ X ↔ ∃ k ∈ S, i ∈ chunkSet c k)
    (q : PosShare TreeShare) (f : Ctx F) :
    (mCtx.view.loc (c : Thread nD τ) ↦[X]{q} f : sProp 𝕄) = bigSep S fun k => pts k q c f := by
  have e : X = S.biUnion (chunkSet c) := Finset.ext fun i => (hX i).trans Finset.mem_biUnion.symm
  rw [e, pointsTo_biUnion S (chunkSet c) fun t _ t' _ h => chunk_disjoint t t' h]
  simp only [pts_chunkSet]

/-- A row block is its chunks. -/
theorem blkPts_chunks (b : Fin 4) (q : PosShare TreeShare) (f : Ctx F) : blkPts c b q f = bigSepL (chunks b) fun k => pts k q c f := by
  unfold blkPts
  rw [← bigSep_eq_bigSepL_of_eq (chunks b) rfl (chunks_nodup b)]
  refine pointsTo_chunks c _ (blk b) (fun i => ?_) q f
  exact (Finset.ext_iff.mp (blk_chunks b) i).trans Finset.mem_biUnion

/-- The scratch is its chunks. -/
theorem held_chunks (q : PosShare TreeShare) (f : Ctx F) :
    (mCtx.view.loc (c : Thread nD τ) ↦{q} f : sProp 𝕄) = bigSepL allK fun k => pts k q c f := by
  rw [← univ_allK]
  refine pointsTo_chunks c _ Finset.univ (fun i => ?_) q f
  exact (Finset.ext_iff.mp chunks_all i).trans Finset.mem_biUnion

theorem pts_split (k : Fin 10) (f : Ctx F) : pts k fullShare c f =
    iprop(pts k fullShare.left c f ∗ (bigSepL (ports c) fun j => pts k (shr j) c f) ∗ bigSepL (noPorts c) fun j => pts k (shr j) c f) := by
  rw [← bigSepL_append, ports_append]
  show _ = iprop(pts k fullShare.left c f ∗ pts k fullShare.right.left c f ∗ pts k fullShare.right.right.left c f ∗ pts k fullShare.right.right.right c f)
  unfold pts
  rw [eq_of_bi (pointsTo_share (PosShare.mem_left_op_right fullShare)), eq_of_bi (pointsTo_share (PosShare.mem_left_op_right fullShare.right)),
    eq_of_bi (pointsTo_share (PosShare.mem_left_op_right fullShare.right.right))]

end Cert.KernelIdeal.Proto
-- ==== Proof.Body.lean ====
module

public import proofs.«01_k».proof.Proof.Lists

@[expose] public section

set_option maxRecDepth 16384

/-!
# The body on the source and on the other devices
-/

noncomputable section

namespace Cert.KernelIdeal.Proto

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Flat

variable {F : FTy → Type} [FloatOps F]

local notation "𝕄" => MT nD τ sig Unit (Elt F) ℕ UU ℕ

variable {C : Ctx F} {K : Dev nD × SI → ℕ} (A : Args F) (c : Dev nD)

/-! ## The programs, by ports -/

/-- The copies of chunk `k`. -/
def sendsP (k : Fin 10) : List (PB F PUnit) := (ports c).map fun j => sendP j k (kid j c)
/-- Waiting for all copies to have left. -/
def sentsP : List (PB F PUnit) := allK.flatMap fun k => (ports c).flatMap fun j => [sentP j k]
/-- Waiting for all ports to be ready. -/
def readysP : List (PB F PUnit) := (ports c).flatMap fun j => [readyP j]

/-- A device other than the source, -/
def rcvL : List (PB F PUnit) :=
  [signalP (port c) (par c)] ++ (readysP c ++
    (((chunks 0).flatMap (fun k => recvP k :: sendsP c k) ++ [outRowsP 0]) ++ (((chunks 1).flatMap (fun k => recvP k :: sendsP c k) ++ [outRowsP 1]) ++
    (((chunks 2).flatMap (fun k => recvP k :: sendsP c k) ++ [outRowsP 2]) ++ (((chunks 3).flatMap (fun k => recvP k :: sendsP c k) ++ [outRowsP 3]) ++
    sentsP c)))))
/-- and the source. -/
def bcastL : List (PB F PUnit) :=
  readysP 0 ++ ([wqP] ++
    (([blockP 0] ++ (chunks 0).flatMap (sendsP 0)) ++ (([blockP 1] ++ (chunks 1).flatMap (sendsP 0)) ++
    (([blockP 2] ++ (chunks 2).flatMap (sendsP 0)) ++ (([blockP 3] ++ (chunks 3).flatMap (sendsP 0)) ++
    ([outAllP] ++ sentsP 0))))))

theorem prog_src : progOf (F := F) 0 = seq bcastL := rfl
theorem prog_rcv (c : Dev nD) (hc : c ≠ 0) : progOf (F := F) c = seq (rcvL c) := by
  match c, hc with
  | ⟨0, _⟩, hc => exact absurd rfl hc
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl

/-! ## Sends -/

/-- What device `c` owes for the copies of the chunks `l`. -/
abbrev due (l : List (Fin 10)) : List (GSem nD τ sig × ℕ) := (sendsOf c l).map (owedSend c)

theorem due_cons (k : Fin 10) (l : List (Fin 10)) : due c (k :: l) = (ports c).map (fun j => owedSend c (j, k)) ++ due c l := by
  unfold due sendsOf
  rw [List.flatMap_cons, List.map_append, List.map_map]; rfl

theorem tri_sends (k : Fin 10) (l : List (Fin 10)) :
    Tri C K c iprop(owesE c (due c (k :: l)) ∗ bigSepL (ports c) fun j => iprop(pts k (shr j) c C ∗ ticket c j k))
      (seq (sendsP c k)) iprop(owesE c (due c l) ∗ bigSepL (ports c) fun j => pend c j k) := by
  have h := Tri.list (C := C) (K := K) (c := c) (fun js : List (Fin 3) => owesE c (js.map (fun j => owedSend c (j, k)) ++ due c l))
    (fun j => iprop(pts k (shr j) c C ∗ ticket c j k)) (fun j => pend c j k) (fun j => [sendP j k (kid j c)]) (ports c)
    (fun j l' hj => (tri_send c j hj k _).one) []
  rw [List.append_nil, ← due_cons] at h
  unfold sendsP
  rw [List.map_eq_flatMap]
  exact h

theorem tri_sents :
    Tri C K c iprop(owesE c [] ∗ bigSepL allK fun k => bigSepL (ports c) fun j => pend c j k)
      (seq (sentsP c)) iprop(owesE c [] ∗ bigSepL allK fun k => bigSepL (ports c) fun j => sent C c j k) :=
  Tri.list (C := C) (K := K) (c := c) (fun _ : List (Fin 10) => owesE c []) _ _ (fun k => (ports c).flatMap fun j => [sentP j k]) allK
    (fun k _ _ => Tri.list (C := C) (K := K) (c := c) (fun _ : List (Fin 3) => owesE c []) _ _ (fun j => [sentP j k]) (ports c)
      (fun j _ hj => (tri_sent c j hj k).one) []) []

/-- What a device holds of a port before it is ready, and after. -/
def readyIn (j : Fin 3) : sProp 𝕄 := iprop(atPos ER (readyCell j c) 0 ∅ 0 ∗ cred (tallyAt (readyCell j c) () 1))

theorem tri_readys (l : List (Fin 10)) :
    Tri C K c iprop(owesE c (due c l) ∗ bigSepL (ports c) (readyIn c))
      (seq (readysP c)) iprop(owesE c (due c l) ∗ bigSepL (ports c) fun j => iprop(semVal (readyCell j c) 0 ∗ pieces (kid j c))) :=
  Tri.list (C := C) (K := K) (c := c) (fun _ : List (Fin 3) => owesE c (due c l)) _ _ (fun j => [readyP j]) (ports c)
    (fun j _ hj => (tri_ready c j hj _ fun p hp => ⟨(above_sends c l p hp).1, by have := (above_sends c l p hp).2; omega⟩).one) []

/-- The right to the copies along a port, and the tickets once the port is ready. -/
theorem tickets :
    iprop((bigSepL (ports c) fun j => iprop(semVal (readyCell j c) 0 ∗ pieces (F := F) (kid j c))) ∗ bigSepL (ports c) fun j => bigSepL allK fun k => tok c j k)
      ⊢ iprop((bigSepL (ports c) fun j => semVal (readyCell j c) 0) ∗ bigSepL allK fun k => bigSepL (ports c) fun j => ticket (F := F) c j k) := by
  rw [bigSepL_swap allK (ports c)]
  unfold ticket pieces
  simp only [bigSepL_sep, univ_allK]
  iintro ⟨⟨H1, H2⟩, H3⟩
  isplitl [H1]; · iexact H1
  isplitl [H3] <;> iassumption

/-! ## A device that receives -/

/-- The shares of chunk `k` a device keeps. -/
def keptRest (C : Ctx F) (k : Fin 10) : sProp 𝕄 := bigSepL (noPorts c) fun j => pts k (shr j) c C

/-- What a device holds of a chunk before it has arrived, and after it has been passed on. -/
def chunkIn (k : Fin 10) : sProp 𝕄 :=
  iprop((atPos ER (recvCell k c) 0 ∅ 0 ∗ cred (tallyAt (recvCell k c) () (amt k))) ∗ bigSepL (ports c) fun j => ticket c j k)
def chunkOut (C : Ctx F) (k : Fin 10) : sProp 𝕄 :=
  iprop((semVal (recvCell k c) 0 ∗ keptRest c C k ∗ bigSepL (ports c) fun j => pend c j k) ∗ pts k fullShare.left c C)

theorem tri_chunk (hc : c ≠ 0) (k : Fin 10) (l : List (Fin 10)) :
    Tri C K c iprop(owesE c (due c (k :: l)) ∗ chunkIn c k) (seq (recvP k :: sendsP c k)) iprop(owesE c (due c l) ∗ chunkOut c C k) := by
  refine Tri.cons (Q := iprop((owesE c (due c (k :: l)) ∗ bigSepL (ports c) fun j => iprop(pts k (shr j) c C ∗ ticket c j k))
    ∗ semVal (recvCell k c) 0 ∗ keptRest c C k ∗ pts k fullShare.left c C)) ?_ ?_
  · refine ((tri_recv c hc k (due c (k :: l)) (above_sends c (k :: l))).frame (bigSepL (ports c) fun j => ticket c j k)).conseq ?_ ?_
    · unfold chunkIn
      iintro ⟨HO, ⟨H1, H2⟩, H3⟩
      isplitl [HO H1 H2]
      · isplitl [HO]; · iexact HO
        isplitl [H1] <;> iassumption
      iexact H3
    · rw [pts_split c k C, bigSepL_sep]
      unfold keptRest
      iintro ⟨⟨HO, Hs, HL, HP, HN⟩, HT⟩
      isplitl [HO HP HT]
      · isplitl [HO]; · iexact HO
        isplitl [HP] <;> iassumption
      isplitl [Hs]; · iexact Hs
      isplitl [HN] <;> iassumption
  · refine ((tri_sends c k l).frame _).post ?_
    unfold chunkOut
    iintro ⟨⟨HO, HP⟩, Hs, HK, HL⟩
    isplitl [HO]; · iexact HO
    isplitl [Hs HK HP]
    · isplitl [Hs]; · iexact Hs
      isplitl [HK] <;> iassumption
    iexact HL

theorem tri_rcvBlock (hc : c ≠ 0) (b : Fin 4) (n : ℕ) (hn : n = b.val) (l : List (Fin 10)) :
    Tri (ctx A) K c iprop(owesE c (due c (chunks b ++ l)) ∗ bigSepL (chunks b) (chunkIn c) ∗ held c cc0_stg4_0 A.wo ∗ outUpTo A c n)
      (seq ((chunks b).flatMap (fun k => recvP k :: sendsP c k) ++ [outRowsP b]))
      iprop(owesE c (due c l) ∗ bigSepL (chunks b) (chunkOut c (ctx A)) ∗ held c cc0_stg4_0 A.wo ∗ outUpTo A c (n + 1)) := by
  refine Tri.append (Q := iprop((owesE c (due c l) ∗ bigSepL (chunks b) (chunkOut c (ctx A))) ∗ held c cc0_stg4_0 A.wo ∗ outUpTo A c n)) ?_ ?_
  · refine ((Tri.list (C := ctx A) (K := K) (c := c) (fun l : List (Fin 10) => owesE c (due c l)) (chunkIn c) (chunkOut c (ctx A))
      (fun k => recvP k :: sendsP c k) (chunks b) (fun k l' _ => tri_chunk c hc k l') l).frame _).pre ?_
    iintro ⟨HO, H1, H2⟩
    isplitl [HO H1]; · isplitl [HO] <;> iassumption
    iexact H2
  · have hsep : bigSepL (chunks b) (chunkOut c (ctx A)) = iprop((bigSepL (chunks b) fun k => iprop(semVal (recvCell k c) 0 ∗ keptRest c (ctx A) k ∗ bigSepL (ports c) fun j => pend c j k)) ∗ blkPts c b fullShare.left (ctx A)) := by
      rw [blkPts_chunks, ← bigSepL_sep]; rfl
    rw [hsep]
    refine ((tri_outRows A c b fullShare.left n hn).one.frame iprop(owesE c (due c l) ∗ bigSepL (chunks b) fun k => iprop(semVal (recvCell k c) 0 ∗ keptRest c (ctx A) k ∗ bigSepL (ports c) fun j => pend c j k))).conseq ?_ ?_
    · iintro ⟨⟨HO, HR, HB⟩, Hw, Ho⟩
      isplitl [HB Hw Ho]
      · isplitl [HB]; · iexact HB
        isplitl [Hw] <;> iassumption
      isplitl [HO] <;> iassumption
    · iintro ⟨⟨HB, Hw, Ho⟩, HO, HR⟩
      isplitl [HO]; · iexact HO
      isplitl [HB HR]; · isplitl [HR] <;> iassumption
      isplitl [Hw] <;> iassumption

/-- Once all copies have left the scratch is whole again. -/
theorem rejoin :
    iprop((bigSepL allK fun k => pts k fullShare.left c C) ∗ (bigSepL allK (keptRest c C)) ∗ bigSepL allK fun k => bigSepL (ports c) fun j => sent C c j k)
      ⊢ iprop((bigSepL allK fun k => bigSepL (ports c) fun j => (semVal (sendCell j k c) 0 : sProp 𝕄)) ∗ held c cc0_scratch0 C) := by
  have h : held c cc0_scratch0 C = bigSepL allK fun k => pts k fullShare c C := held_chunks c fullShare C
  rw [h]
  unfold sent keptRest
  simp only [pts_split c _ C, bigSepL_sep]
  iintro ⟨HL, HN, HS, HP⟩
  isplitl [HS]; · iexact HS
  isplitl [HL]; · iexact HL
  isplitl [HP] <;> iassumption

/-- What every device starts from, -/
def startPorts : sProp 𝕄 := iprop(bigSepL (ports c) (readyIn c) ∗ bigSepL (ports c) fun j => bigSepL allK fun k => tok c j k)
/-- and its used semaphores at the end. -/
def endPorts : sProp 𝕄 :=
  iprop((bigSepL (ports c) fun j => semVal (readyCell j c) 0) ∗ bigSepL allK fun k => bigSepL (ports c) fun j => semVal (sendCell j k c) 0)

theorem tri_rcv (hc : c ≠ 0) :
    Tri (ctx A) K c
      iprop(owesE c ((readyCell (port c) (par c), 1) :: due c allK) ∗ (dutyTok ER (readyCell (port c) (par c)) 0 () ∗ pieces c) ∗ startPorts c
        ∗ (bigSepL allK fun k => iprop(atPos ER (recvCell k c) 0 ∅ 0 ∗ cred (tallyAt (recvCell k c) () (amt k))))
        ∗ held c cc0_stg4_0 A.wo ∗ ∃ f, held c cc0_stg5_0 f)
      (progOf c)
      iprop(owesE c [] ∗ endPorts c ∗ (bigSepL allK fun k => semVal (recvCell k c) 0) ∗ held c cc0_scratch0 (ctx A)
        ∗ held c cc0_stg4_0 A.wo ∗ held c cc0_stg5_0 (outRows A)) := by
  rw [prog_rcv c hc]
  unfold rcvL startPorts
  -- the signal
  refine Tri.append (((tri_signal c hc (due c allK)).one.frame iprop((bigSepL (ports c) (readyIn c) ∗ bigSepL (ports c) fun j => bigSepL allK fun k => tok c j k)
    ∗ (bigSepL allK fun k => iprop(atPos ER (recvCell k c) 0 ∅ 0 ∗ cred (tallyAt (recvCell k c) () (amt k))))
    ∗ held c cc0_stg4_0 A.wo ∗ ∃ f, held c cc0_stg5_0 f)).pre (by
      iintro ⟨HO, ⟨Ht, Hp⟩, HR⟩
      isplitl [HO Ht Hp]
      · isplitl [HO]; · iexact HO
        isplitl [Ht] <;> iassumption
      iexact HR)) ?_
  -- the ready waits
  refine Tri.append (((tri_readys c allK).frame iprop((bigSepL (ports c) fun j => bigSepL allK fun k => tok c j k)
    ∗ (bigSepL allK fun k => iprop(atPos ER (recvCell k c) 0 ∅ 0 ∗ cred (tallyAt (recvCell k c) () (amt k))))
    ∗ held c cc0_stg4_0 A.wo ∗ ∃ f, held c cc0_stg5_0 f)).conseq (Q' :=
      iprop((owesE c (due c (chunks 0 ++ (chunks 1 ++ (chunks 2 ++ (chunks 3 ++ []))))) ∗ bigSepL (chunks 0) (chunkIn c) ∗ held c cc0_stg4_0 A.wo ∗ outUpTo A c 0)
        ∗ (bigSepL (ports c) fun j => semVal (readyCell j c) 0) ∗ bigSepL (chunks 1) (chunkIn c) ∗ bigSepL (chunks 2) (chunkIn c) ∗ bigSepL (chunks 3) (chunkIn c))) (by
      iintro ⟨HO, ⟨Hr, Ht⟩, HR⟩
      isplitl [HO Hr]; · isplitl [HO] <;> iassumption
      isplitl [Ht] <;> iassumption) (by
      have hall : bigSepL allK (chunkIn (F := F) c) = iprop(bigSepL (chunks 0) (chunkIn c) ∗ bigSepL (chunks 1) (chunkIn c) ∗ bigSepL (chunks 2) (chunkIn c) ∗ bigSepL (chunks 3) (chunkIn c)) := by
        rw [allK_eq, bigSepL_append, bigSepL_append, bigSepL_append, List.append_nil]
      iintro ⟨⟨HO, Hr⟩, Ht, Hv, Hw, ⟨%f, Ho⟩⟩
      ihave H := (tickets c) $$ [Hr Ht]
      · isplitl [Hr] <;> iassumption
      icases H with ⟨Hs, HT⟩
      ihave HC := (Entails.of_eq (((bigSepL_sep allK (fun k => iprop(atPos ER (recvCell k c) 0 ∅ 0 ∗ cred (tallyAt (recvCell k c) () (amt k))))
        (fun k => bigSepL (ports c) fun j => ticket (F := F) c j k)).symm).trans hall)) $$ [Hv HT]
      · isplitl [Hv] <;> iassumption
      icases HC with ⟨H0, H1, H2, H3⟩
      ihave HO := (Entails.of_eq (congrArg (fun l => owesE (F := F) c (due c l)) allK_eq)) $$ HO
      isplitl [HO H0 Hw Ho]
      · isplitl [HO]; · iexact HO
        isplitl [H0]; · iexact H0
        isplitl [Hw]; · iexact Hw
        unfold outUpTo
        iexists f
        isplitr; · ipureintro; exact agO_zero A f
        iexact Ho
      isplitl [Hs]; · iexact Hs
      isplitl [H1]; · iexact H1
      isplitl [H2] <;> iassumption)) ?_
  -- the four row blocks
  refine Tri.append ((tri_rcvBlock A c hc 0 0 rfl (chunks 1 ++ (chunks 2 ++ (chunks 3 ++ [])))).frame _) ?_
  refine Tri.append (((tri_rcvBlock A c hc 1 1 rfl (chunks 2 ++ (chunks 3 ++ []))).frame iprop((bigSepL (ports c) fun j => semVal (readyCell j c) 0)
      ∗ bigSepL (chunks 0) (chunkOut c (ctx A)) ∗ bigSepL (chunks 2) (chunkIn c) ∗ bigSepL (chunks 3) (chunkIn c))).pre (by
    iintro ⟨⟨HO, H0, Hw, Ho⟩, Hs, H1, H2, H3⟩
    isplitl [HO H1 Hw Ho]
    · isplitl [HO]; · iexact HO
      isplitl [H1]; · iexact H1
      isplitl [Hw] <;> iassumption
    isplitl [Hs]; · iexact Hs
    isplitl [H0]; · iexact H0
    isplitl [H2] <;> iassumption)) ?_
  refine Tri.append (((tri_rcvBlock A c hc 2 2 rfl (chunks 3 ++ [])).frame iprop((bigSepL (ports c) fun j => semVal (readyCell j c) 0)
      ∗ bigSepL (chunks 0) (chunkOut c (ctx A)) ∗ bigSepL (chunks 1) (chunkOut c (ctx A)) ∗ bigSepL (chunks 3) (chunkIn c))).pre (by
    iintro ⟨⟨HO, H1, Hw, Ho⟩, Hs, H0, H2, H3⟩
    isplitl [HO H2 Hw Ho]
    · isplitl [HO]; · iexact HO
      isplitl [H2]; · iexact H2
      isplitl [Hw] <;> iassumption
    isplitl [Hs]; · iexact Hs
    isplitl [H0]; · iexact H0
    isplitl [H1] <;> iassumption)) ?_
  refine Tri.append (((tri_rcvBlock A c hc 3 3 rfl []).frame iprop((bigSepL (ports c) fun j => semVal (readyCell j c) 0)
      ∗ bigSepL (chunks 0) (chunkOut c (ctx A)) ∗ bigSepL (chunks 1) (chunkOut c (ctx A)) ∗ bigSepL (chunks 2) (chunkOut c (ctx A)))).pre (by
    iintro ⟨⟨HO, H2, Hw, Ho⟩, Hs, H0, H1, H3⟩
    isplitl [HO H3 Hw Ho]
    · isplitl [HO]; · iexact HO
      isplitl [H3]; · iexact H3
      isplitl [Hw] <;> iassumption
    isplitl [Hs]; · iexact Hs
    isplitl [H0]; · iexact H0
    isplitl [H1] <;> iassumption)) ?_
  -- the copies have left
  have hall : bigSepL allK (chunkOut c (ctx A)) = iprop(bigSepL (chunks 0) (chunkOut c (ctx A)) ∗ bigSepL (chunks 1) (chunkOut c (ctx A))
      ∗ bigSepL (chunks 2) (chunkOut c (ctx A)) ∗ bigSepL (chunks 3) (chunkOut c (ctx A))) := by
    rw [allK_eq, bigSepL_append, bigSepL_append, bigSepL_append, List.append_nil]
  have hout : bigSepL allK (chunkOut c (ctx A)) = iprop(((bigSepL allK fun k => semVal (recvCell k c) 0) ∗ bigSepL allK (keptRest c (ctx A))
      ∗ bigSepL allK fun k => bigSepL (ports c) fun j => pend c j k) ∗ bigSepL allK fun k => pts k fullShare.left c (ctx A)) := by
    unfold chunkOut; simp only [bigSepL_sep]
  refine ((tri_sents c).frame iprop((bigSepL (ports c) fun j => semVal (readyCell j c) 0) ∗ (bigSepL allK fun k => semVal (recvCell k c) 0)
    ∗ bigSepL allK (keptRest c (ctx A)) ∗ (bigSepL allK fun k => pts k fullShare.left c (ctx A)) ∗ held c cc0_stg4_0 A.wo ∗ outUpTo A c 4)).conseq ?_ ?_
  · iintro ⟨⟨HO, H3, Hw, Ho⟩, Hs, H0, H1, H2⟩
    ihave H := (Entails.of_eq (hall.symm.trans hout)) $$ [H0 H1 H2 H3]
    · isplitl [H0]; · iexact H0
      isplitl [H1]; · iexact H1
      isplitl [H2] <;> iassumption
    icases H with ⟨⟨Hv, Hk, Hp⟩, Hl⟩
    isplitl [HO Hp]
    · isplitl [HO]; · iexact HO
      iexact Hp
    isplitl [Hs]; · iexact Hs
    isplitl [Hv]; · iexact Hv
    isplitl [Hk]; · iexact Hk
    isplitl [Hl]; · iexact Hl
    isplitl [Hw] <;> iassumption
  · unfold endPorts outUpTo
    iintro ⟨⟨HO, Hp⟩, Hs, Hv, Hk, Hl, Hw, ⟨%f, %hf, Ho⟩⟩
    rw [agO_full A f hf]
    ihave H := (rejoin (C := ctx A) c) $$ [Hp Hk Hl]
    · isplitl [Hl]; · iexact Hl
      isplitl [Hk] <;> iassumption
    icases H with ⟨Hsend, Hc⟩
    isplitl [HO]; · iexact HO
    isplitl [Hs Hsend]; · isplitl [Hs] <;> iassumption
    isplitl [Hv]; · iexact Hv
    isplitl [Hc]; · iexact Hc
    isplitl [Hw] <;> iassumption

/-! ## The source -/

/-- What the source holds of a chunk before and after its copies. -/
def srcOut (C : Ctx F) (k : Fin 10) : sProp 𝕄 := iprop((keptRest c C k ∗ bigSepL (ports c) fun j => pend c j k) ∗ pts k fullShare.left c C)

/-- The buffers the source computes the context from. -/
def srcBufs : sProp 𝕄 :=
  iprop((held c cc0_stg0_0 A.x ∗ held c cc0_scratch1 (wq16 A)) ∗ held c cc0_stg2_0 A.k ∗ held c cc0_stg3_0 A.v)

theorem tri_srcChunk (k : Fin 10) (l : List (Fin 10)) :
    Tri C K c iprop(owesE c (due c (k :: l)) ∗ pts k fullShare c C ∗ bigSepL (ports c) fun j => ticket c j k)
      (seq (sendsP c k)) iprop(owesE c (due c l) ∗ srcOut c C k) := by
  refine ((tri_sends c k l).frame iprop(keptRest c C k ∗ pts k fullShare.left c C)).conseq ?_ ?_
  · rw [pts_split c k C, bigSepL_sep]
    unfold keptRest
    iintro ⟨HO, ⟨HL, HP, HN⟩, HT⟩
    isplitl [HO HP HT]
    · isplitl [HO]; · iexact HO
      isplitl [HP] <;> iassumption
    isplitl [HN] <;> iassumption
  · unfold srcOut
    iintro ⟨⟨HO, HP⟩, HK, HL⟩
    isplitl [HO]; · iexact HO
    isplitl [HK HP]
    · isplitl [HK] <;> iassumption
    iexact HL

theorem tri_srcBlock (b : Fin 4) (l : List (Fin 10)) :
    Tri (ctx A) K c iprop(owesE c (due c (chunks b ++ l)) ∗ srcBufs A c ∗ (∃ f, blkPts c b fullShare f)
        ∗ bigSepL (chunks b) fun k => bigSepL (ports c) fun j => ticket c j k)
      (seq ([blockP b] ++ (chunks b).flatMap (sendsP c)))
      iprop(owesE c (due c l) ∗ srcBufs A c ∗ bigSepL (chunks b) (srcOut c (ctx A))) := by
  refine Tri.append (((tri_block A c b).one.frame iprop(owesE c (due c (chunks b ++ l)) ∗ bigSepL (chunks b) fun k => bigSepL (ports c) fun j => ticket c j k)).conseq
    (Q' := iprop((owesE c (due c (chunks b ++ l)) ∗ bigSepL (chunks b) fun k => iprop(pts k fullShare c (ctx A) ∗ bigSepL (ports c) fun j => ticket c j k)) ∗ srcBufs A c)) ?_ ?_) ?_
  · unfold srcBufs
    iintro ⟨HO, ⟨H1, H2, H3⟩, HB, HT⟩
    isplitl [H1 H2 H3 HB]
    · isplitl [H1]; · iexact H1
      isplitl [H2]; · iexact H2
      isplitl [H3] <;> iassumption
    isplitl [HO] <;> iassumption
  · rw [bigSepL_sep, ← blkPts_chunks]
    unfold srcBufs
    iintro ⟨⟨H1, H2, H3, HB⟩, HO, HT⟩
    isplitl [HO HB HT]
    · isplitl [HO]; · iexact HO
      isplitl [HB] <;> iassumption
    isplitl [H1]; · iexact H1
    isplitl [H2] <;> iassumption
  · refine ((Tri.list (C := ctx A) (K := K) (c := c) (fun l : List (Fin 10) => owesE c (due c l)) _ (srcOut c (ctx A))
      (sendsP c) (chunks b) (fun k l' _ => tri_srcChunk c k l') l).frame _).post ?_
    iintro ⟨⟨HO, H1⟩, H2⟩
    isplitl [HO]; · iexact HO
    isplitl [H2] <;> iassumption

theorem tri_src :
    Tri (ctx A) K 0
      iprop(owesE 0 (due 0 allK) ∗ startPorts 0 ∗ ((held 0 cc0_stg0_0 A.x ∗ held 0 cc0_stg1_0 A.wq ∗ held 0 cc0_stg2_0 A.k ∗ held 0 cc0_stg3_0 A.v)
        ∗ (∃ f, held 0 cc0_scratch0 f) ∗ ∃ f, held 0 cc0_scratch1 f)
        ∗ held 0 cc0_stg4_0 A.wo ∗ ∃ f, held 0 cc0_stg5_0 f)
      (progOf 0)
      iprop(owesE 0 [] ∗ endPorts 0 ∗ ((held 0 cc0_stg0_0 A.x ∗ held 0 cc0_stg1_0 A.wq ∗ held 0 cc0_stg2_0 A.k ∗ held 0 cc0_stg3_0 A.v)
        ∗ held 0 cc0_scratch0 (ctx A) ∗ held 0 cc0_scratch1 (wq16 A))
        ∗ held 0 cc0_stg4_0 A.wo ∗ held 0 cc0_stg5_0 (outSrc A)) := by
  rw [prog_src]
  unfold bcastL startPorts
  -- the ready waits
  refine Tri.append (((tri_readys 0 allK).frame iprop((bigSepL (ports 0) fun j => bigSepL allK fun k => tok 0 j k)
      ∗ ((held 0 cc0_stg0_0 A.x ∗ held 0 cc0_stg1_0 A.wq ∗ held 0 cc0_stg2_0 A.k ∗ held 0 cc0_stg3_0 A.v)
        ∗ (∃ f, held 0 cc0_scratch0 f) ∗ ∃ f, held 0 cc0_scratch1 f)
        ∗ held 0 cc0_stg4_0 A.wo ∗ ∃ f, held 0 cc0_stg5_0 f)).pre (by
      iintro ⟨HO, ⟨Hr, Ht⟩, HR⟩
      isplitl [HO Hr]; · isplitl [HO] <;> iassumption
      isplitl [Ht] <;> iassumption)) ?_
  -- the cast of `Wq`
  let src (b : Fin 4) : sProp 𝕄 := iprop((∃ f, blkPts (F := F) 0 b fullShare f) ∗ bigSepL (chunks b) fun k => bigSepL (ports 0) fun j => ticket (F := F) 0 j k)
  let rest : sProp 𝕄 := iprop((bigSepL (ports 0) fun j => semVal (readyCell j 0) 0) ∗ held 0 cc0_stg1_0 A.wq ∗ held 0 cc0_stg4_0 A.wo ∗ ∃ f, held 0 cc0_stg5_0 f)
  refine Tri.append ((((tri_wq A 0).one.frame iprop((owesE 0 (due 0 allK) ∗ bigSepL (ports 0) fun j => iprop(semVal (readyCell j 0) 0 ∗ pieces (kid j 0)))
      ∗ (bigSepL (ports 0) fun j => bigSepL allK fun k => tok 0 j k) ∗ (held 0 cc0_stg0_0 A.x ∗ held 0 cc0_stg2_0 A.k ∗ held 0 cc0_stg3_0 A.v)
      ∗ (∃ f, held 0 cc0_scratch0 f) ∗ held 0 cc0_stg4_0 A.wo ∗ ∃ f, held 0 cc0_stg5_0 f)).conseq (Q' :=
      iprop((owesE 0 (due 0 (chunks 0 ++ (chunks 1 ++ (chunks 2 ++ (chunks 3 ++ []))))) ∗ srcBufs A 0 ∗ src 0) ∗ src 1 ∗ src 2 ∗ src 3 ∗ rest))) ?_ ?_) ?_
  · iintro ⟨HO, Ht, ⟨⟨Hx, Hq, Hk, Hv⟩, Hc, Hs⟩, Hw, Ho⟩
    isplitl [Hq Hs]; · isplitl [Hq] <;> iassumption
    isplitl [HO]; · iexact HO
    isplitl [Ht]; · iexact Ht
    isplitl [Hx Hk Hv]
    · isplitl [Hx]; · iexact Hx
      isplitl [Hk] <;> iassumption
    isplitl [Hc]; · iexact Hc
    isplitl [Hw] <;> iassumption
  · have hall : (bigSepL allK fun k => bigSepL (ports 0) fun j => ticket (F := F) 0 j k) = iprop((bigSepL (chunks 0) fun k => bigSepL (ports 0) fun j => ticket (F := F) 0 j k)
        ∗ (bigSepL (chunks 1) fun k => bigSepL (ports 0) fun j => ticket (F := F) 0 j k) ∗ (bigSepL (chunks 2) fun k => bigSepL (ports 0) fun j => ticket (F := F) 0 j k)
        ∗ (bigSepL (chunks 3) fun k => bigSepL (ports 0) fun j => ticket (F := F) 0 j k)) := by
      rw [allK_eq, bigSepL_append, bigSepL_append, bigSepL_append, List.append_nil]
    have hblk (f : Ctx F) : held 0 cc0_scratch0 f = iprop(blkPts 0 0 fullShare f ∗ blkPts 0 1 fullShare f ∗ blkPts 0 2 fullShare f ∗ blkPts 0 3 fullShare f) := by
      refine (held_chunks 0 fullShare f).trans ?_
      rw [allK_eq, bigSepL_append, bigSepL_append, bigSepL_append, List.append_nil, blkPts_chunks, blkPts_chunks, blkPts_chunks, blkPts_chunks]
    unfold srcBufs
    iintro ⟨⟨Hq, Hs⟩, ⟨HO, Hr⟩, Ht, ⟨Hx, Hk, Hv⟩, ⟨%f, Hc⟩, Hw, Ho⟩
    ihave H := (tickets 0) $$ [Hr Ht]
    · isplitl [Hr] <;> iassumption
    icases H with ⟨Hrd, HT⟩
    ihave HT := (Entails.of_eq hall) $$ HT
    icases HT with ⟨T0, T1, T2, T3⟩
    ihave Hc := (Entails.of_eq (hblk f)) $$ Hc
    icases Hc with ⟨B0, B1, B2, B3⟩
    ihave HO := (Entails.of_eq (congrArg (fun l => owesE (F := F) 0 (due 0 l)) allK_eq)) $$ HO
    isplitl [HO Hx Hs Hk Hv B0 T0]
    · isplitl [HO]; · iexact HO
      isplitl [Hx Hs Hk Hv]
      · isplitl [Hx Hs]; · isplitl [Hx] <;> iassumption
        isplitl [Hk] <;> iassumption
      isplitl [B0]; · iexists f; iexact B0
      iexact T0
    isplitl [B1 T1]
    · isplitl [B1]; · iexists f; iexact B1
      iexact T1
    isplitl [B2 T2]
    · isplitl [B2]; · iexists f; iexact B2
      iexact T2
    isplitl [B3 T3]
    · isplitl [B3]; · iexists f; iexact B3
      iexact T3
    isplitl [Hrd]; · iexact Hrd
    isplitl [Hq]; · iexact Hq
    isplitl [Hw] <;> iassumption
  -- the four row blocks
  let out (b : Fin 4) : sProp 𝕄 := bigSepL (chunks b) (srcOut 0 (ctx A))
  refine Tri.append ((tri_srcBlock A 0 0 (chunks 1 ++ (chunks 2 ++ (chunks 3 ++ [])))).frame _) ?_
  refine Tri.append (((tri_srcBlock A 0 1 (chunks 2 ++ (chunks 3 ++ []))).frame iprop(out 0 ∗ src 2 ∗ src 3 ∗ rest)).pre (by
    iintro ⟨⟨HO, HS, H0⟩, H1, HR⟩
    isplitl [HO HS H1]
    · isplitl [HO]; · iexact HO
      isplitl [HS] <;> iassumption
    isplitl [H0] <;> iassumption)) ?_
  refine Tri.append (((tri_srcBlock A 0 2 (chunks 3 ++ [])).frame iprop(out 1 ∗ out 0 ∗ src 3 ∗ rest)).pre (by
    iintro ⟨⟨HO, HS, H1⟩, H0, H2, HR⟩
    isplitl [HO HS H2]
    · isplitl [HO]; · iexact HO
      isplitl [HS] <;> iassumption
    isplitl [H1]; · iexact H1
    isplitl [H0] <;> iassumption)) ?_
  refine Tri.append (((tri_srcBlock A 0 3 []).frame iprop(out 2 ∗ out 1 ∗ out 0 ∗ rest)).pre (by
    iintro ⟨⟨HO, HS, H2⟩, H1, H0, H3, HR⟩
    isplitl [HO HS H3]
    · isplitl [HO]; · iexact HO
      isplitl [HS] <;> iassumption
    isplitl [H2]; · iexact H2
    isplitl [H1]; · iexact H1
    isplitl [H0] <;> iassumption)) ?_
  -- the output
  have hall : iprop(out 0 ∗ out 1 ∗ out 2 ∗ out 3) = bigSepL allK (srcOut 0 (ctx A)) := by
    rw [allK_eq, bigSepL_append, bigSepL_append, bigSepL_append, List.append_nil]
  have hout : bigSepL allK (srcOut 0 (ctx A)) = iprop((bigSepL allK (keptRest 0 (ctx A)) ∗ bigSepL allK fun k => bigSepL (ports 0) fun j => pend 0 j k)
      ∗ (mCtx.view.loc ((0 : Dev nD) : Thread nD τ) ↦{fullShare.left} (ctx A))) := by
    rw [held_chunks]
    unfold srcOut; simp only [bigSepL_sep]
  refine Tri.append (((tri_outAll A 0 fullShare.left).one.frame iprop((owesE 0 [] ∗ bigSepL allK fun k => bigSepL (ports 0) fun j => pend 0 j k)
    ∗ srcBufs A 0 ∗ bigSepL allK (keptRest 0 (ctx A)) ∗ held 0 cc0_stg1_0 A.wq ∗ bigSepL (ports 0) fun j => semVal (readyCell j 0) 0)).pre ?_) ?_
  · iintro ⟨⟨HO, HS, H3⟩, H2, H1, H0, Hrd, Hq, Hw, Ho⟩
    ihave H := (Entails.of_eq (hall.trans hout)) $$ [H0 H1 H2 H3]
    · isplitl [H0]; · iexact H0
      isplitl [H1]; · iexact H1
      isplitl [H2] <;> iassumption
    icases H with ⟨⟨Hk, Hp⟩, Hl⟩
    isplitl [Hl Hw Ho]
    · isplitl [Hl]; · iexact Hl
      isplitl [Hw] <;> iassumption
    isplitl [HO Hp]
    · isplitl [HO]; · iexact HO
      iexact Hp
    isplitl [HS]; · iexact HS
    isplitl [Hk]; · iexact Hk
    isplitl [Hq] <;> iassumption
  -- the copies have left
  refine ((tri_sents 0).frame iprop((mCtx.view.loc ((0 : Dev nD) : Thread nD τ) ↦{fullShare.left} (ctx A)) ∗ held 0 cc0_stg4_0 A.wo ∗ held 0 cc0_stg5_0 (outSrc A)
    ∗ srcBufs A 0 ∗ bigSepL allK (keptRest 0 (ctx A)) ∗ held 0 cc0_stg1_0 A.wq ∗ bigSepL (ports 0) fun j => semVal (readyCell j 0) 0)).conseq ?_ ?_
  · iintro ⟨⟨Hl, Hw, Ho⟩, HP, HR⟩
    isplitl [HP]; · iexact HP
    isplitl [Hl]; · iexact Hl
    isplitl [Hw]; · iexact Hw
    isplitl [Ho] <;> iassumption
  · unfold endPorts srcBufs
    rw [held_chunks]
    iintro ⟨⟨HO, Hp⟩, Hl, Hw, Ho, ⟨⟨Hx, Hs⟩, Hk, Hv⟩, HK, Hq, Hrd⟩
    ihave H := (rejoin (C := ctx A) 0) $$ [Hp HK Hl]
    · isplitl [Hl]; · iexact Hl
      isplitl [HK] <;> iassumption
    icases H with ⟨Hsend, Hc⟩
    isplitl [HO]; · iexact HO
    isplitl [Hrd Hsend]; · isplitl [Hrd] <;> iassumption
    isplitl [Hx Hq Hk Hv Hc Hs]
    · isplitl [Hx Hq Hk Hv]
      · isplitl [Hx]; · iexact Hx
        isplitl [Hq]; · iexact Hq
        isplitl [Hk] <;> iassumption
      isplitl [Hc] <;> iassumption
    isplitl [Hw] <;> iassumption

end Cert.KernelIdeal.Proto
-- ==== Proof.Deal.lean ====
module

public import proofs.«01_k».proof.Proof.Body

@[expose] public section

set_option maxRecDepth 16384

/-!
# What each device is dealt at launch

Every cell's rights are made on the device of the cell; here they go to the device that uses them. The credits for what the
other devices owe come the same way.
-/

noncomputable section

namespace Cert.KernelIdeal.Proto

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Flat

variable {F : FTy → Type} [FloatOps F]

local notation "𝕄" => MT nD τ sig Unit (Elt F) ℕ UU ℕ

/-! ## Semaphores by kind -/

/-- Something about every semaphore of a device: the ready ones, the send ones by port and chunk, the receive ones. -/
theorem univ_SI (Φ : SI → sProp 𝕄) :
    bigSep Finset.univ Φ = iprop((bigSepL allJ fun j => Φ (.inl j)) ∗ (bigSepL allJ fun j => bigSepL allK fun k => Φ (.inr (.inl (j, k))))
      ∗ bigSepL allK fun k => Φ (.inr (.inr k))) := by
  rw [BI.bigSep_univ_sum, BI.bigSep_univ_sum, bigSep_univ_prod, univ_allJ, univ_allJ, univ_allK]
  simp only [univ_allK]
  rfl

/-- The ports with a device hanging off, then the ones without. -/
theorem allJ_split (c : Dev nD) (Φ : Fin 3 → sProp 𝕄) :
    bigSepL allJ Φ = iprop(bigSepL (ports c) Φ ∗ bigSepL (noPorts c) Φ) := by
  rw [← ports_append c]; exact bigSepL_append _ _ _

theorem keep_ports (c : Dev nD) (Φ : Fin 3 → sProp 𝕄) : bigSepL allJ Φ ⊢ bigSepL (ports c) Φ := by
  rw [allJ_split c]; iintro ⟨H, -⟩; iexact H

/-! ## The rights -/

/-- The right to the signal a device gives its parent. -/
def upTok (c : Dev nD) : sProp 𝕄 := if c = 0 then iprop(emp) else dutyTok ER (readyCell (port c) (par c)) 0 ()
/-- The rights to both signals of every copy a device makes. -/
def copyToks (c : Dev nD) : sProp 𝕄 :=
  bigSepL (ports c) fun j => bigSepL allK fun k => iprop(dutyTok ER (sendCell j k c) 0 () ∗ dutyTok ER (recvCell k (kid j c)) 0 ())

/-- Something said of each device. -/
theorem univ_dev (Φ : Dev nD → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Each device's ready semaphores go to the devices below. -/
theorem deal_up (R : Dev nD → Fin 3 → sProp 𝕄) :
    (bigSep Finset.univ fun c => bigSepL allJ (R c)) ⊢ bigSep Finset.univ fun c : Dev nD => if c = 0 then iprop(emp) else R (par c) (port c) := by
  rw [univ_dev, univ_dev]
  show iprop((R 0 0 ∗ R 0 1 ∗ R 0 2) ∗ (R 1 0 ∗ R 1 1 ∗ R 1 2) ∗ (R 2 0 ∗ R 2 1 ∗ R 2 2) ∗ (R 3 0 ∗ R 3 1 ∗ R 3 2) ∗ (R 4 0 ∗ R 4 1 ∗ R 4 2)
      ∗ (R 5 0 ∗ R 5 1 ∗ R 5 2) ∗ (R 6 0 ∗ R 6 1 ∗ R 6 2) ∗ (R 7 0 ∗ R 7 1 ∗ R 7 2))
    ⊢ iprop(emp ∗ R 0 0 ∗ R 1 0 ∗ R 0 1 ∗ R 0 2 ∗ R 4 0 ∗ R 5 0 ∗ R 3 0)
  iintro ⟨⟨H00, H01, H02⟩, ⟨H10, -⟩, -, ⟨H30, -⟩, ⟨H40, -⟩, ⟨H50, -⟩, -⟩
  isplitr; · iempintro
  isplitl [H00]; · iexact H00
  isplitl [H10]; · iexact H10
  isplitl [H01]; · iexact H01
  isplitl [H02]; · iexact H02
  isplitl [H40]; · iexact H40
  isplitl [H50] <;> iassumption

/-- Each device's receive semaphores go to the device above. -/
theorem deal_down (V : Dev nD → sProp 𝕄) :
    bigSep Finset.univ V ⊢ bigSep Finset.univ fun c : Dev nD => bigSepL (ports c) fun j => V (kid j c) := by
  rw [univ_dev, univ_dev]
  show iprop(V 0 ∗ V 1 ∗ V 2 ∗ V 3 ∗ V 4 ∗ V 5 ∗ V 6 ∗ V 7)
    ⊢ iprop((V 1 ∗ V 3 ∗ V 4) ∗ V 2 ∗ emp ∗ V 7 ∗ V 5 ∗ V 6 ∗ emp ∗ emp)
  iintro ⟨-, H1, H2, H3, H4, H5, H6, H7⟩
  isplitl [H1 H3 H4]
  · isplitl [H1]; · iexact H1
    isplitl [H3] <;> iassumption
  isplitl [H2]; · iexact H2
  isplitr; · iempintro
  isplitl [H7]; · iexact H7
  isplitl [H5]; · iexact H5
  isplitl [H6]; · iexact H6
  isplitr <;> iempintro

/-- All rights, on the devices that use them. -/
theorem deal_toks :
    (bigSep Finset.univ fun c : Dev nD => bigSep Finset.univ fun i : SI => (dutyTok ER (cellOfI (c, i)) 0 () : sProp 𝕄))
      ⊢ bigSep Finset.univ fun c : Dev nD => iprop(upTok c ∗ copyToks c) := by
  have e (c : Dev nD) : (copyToks c : sProp 𝕄) = iprop((bigSepL (ports c) fun j => bigSepL allK fun k => dutyTok ER (sendCell j k c) 0 ())
      ∗ bigSepL (ports c) fun j => bigSepL allK fun k => dutyTok ER (recvCell k (kid j c)) 0 ()) := by
    unfold copyToks
    simp only [bigSepL_sep]
  simp only [univ_SI, e]
  rw [bigSep_sep', bigSep_sep', bigSep_sep', bigSep_sep']
  refine sep_mono ?_ (sep_mono ?_ ?_)
  · unfold upTok; exact deal_up fun c j => dutyTok ER (readyCell j c) 0 ()
  · exact bigSep_mono fun c _ => keep_ports c fun j => bigSepL allK fun k => dutyTok ER (sendCell j k c) 0 ()
  · exact deal_down fun c => bigSepL allK fun k => dutyTok ER (recvCell k c) 0 ()

/-! ## The credits -/

theorem owedL_append (l l' : List (GSem nD τ sig × ℕ)) : owedL (l ++ l') = owedL l + owedL l' := by
  induction l with
  | nil => exact (zero_add _).symm
  | cons p l ih => show owedL (l ++ l') + _ = owedL l + _ + _; rw [ih]; ac_rfl

theorem owedL_perm {l l' : List (GSem nD τ sig × ℕ)} (h : l.Perm l') : owedL l = owedL l' := by
  induction h with
  | nil => rfl
  | cons p _ ih => show _ + _ = _ + _; rw [ih]
  | swap p q l => show owedL l + _ + _ = owedL l + _ + _; ac_rfl
  | trans _ _ h₁ h₂ => exact h₁.trans h₂

/-- What a device's receive semaphores are owed in all. -/
def owedIn (d : Dev nD) : CellTallies nD τ sig Unit := owedL (allK.map fun k => (recvCell k d, amt k))
/-- What a device's cells are owed in all. -/
def dueTo (d : Dev nD) : CellTallies nD τ sig Unit :=
  owedL ((ports d).map fun j => (readyCell j d, 1)) + if d = 0 then 0 else owedIn d

theorem sends_perm (d : Dev nD) : (sendsOf d allK).Perm ((ports d).flatMap fun j => allK.map fun k => (j, k)) := by
  revert d; decide

theorem owed_sends (d : Dev nD) : owedL ((sendsOf d allK).map (owedSend d)) = ((ports d).map fun j => owedIn (kid j d)).sum := by
  rw [owedL_perm ((sends_perm d).map (owedSend d))]
  generalize ports d = l
  induction l with
  | nil => rfl
  | cons j l ih =>
    rw [List.flatMap_cons, List.map_append, owedL_append, ih, List.map_cons, List.sum_cons, List.map_map]; rfl

theorem owed_sum : (∑ d, O₀ d) = ∑ d, dueTo d := by
  have h (d : Dev nD) : O₀ d = owedL (owedUp d) + ((ports d).map fun j => owedIn (kid j d)).sum := by
    unfold O₀; rw [owedL_append, owed_sends]
  simp only [h]
  unfold dueTo
  rw [show (Finset.univ : Finset (Dev nD)) = (Finset.univ : Finset (Fin 8)) from rfl, Fin.sum_univ_eight, Fin.sum_univ_eight]
  show ((0 + (owedIn 1 + (owedIn 3 + (owedIn 4 + 0)))) + ((0 + tallyAt (readyCell 0 0) () 1) + (owedIn 2 + 0)) + ((0 + tallyAt (readyCell 0 1) () 1) + 0)
      + ((0 + tallyAt (readyCell 1 0) () 1) + (owedIn 7 + 0)) + ((0 + tallyAt (readyCell 2 0) () 1) + (owedIn 5 + 0))
      + ((0 + tallyAt (readyCell 0 4) () 1) + (owedIn 6 + 0)) + ((0 + tallyAt (readyCell 0 5) () 1) + 0) + ((0 + tallyAt (readyCell 0 3) () 1) + 0))
    = ((((0 + tallyAt (readyCell 2 0) () 1) + tallyAt (readyCell 1 0) () 1) + tallyAt (readyCell 0 0) () 1) + 0)
      + ((0 + tallyAt (readyCell 0 1) () 1) + owedIn 1) + (0 + owedIn 2) + ((0 + tallyAt (readyCell 0 3) () 1) + owedIn 3)
      + ((0 + tallyAt (readyCell 0 4) () 1) + owedIn 4) + ((0 + tallyAt (readyCell 0 5) () 1) + owedIn 5) + (0 + owedIn 6) + (0 + owedIn 7)
  simp only [zero_add, add_zero]
  ac_rfl

theorem owedL_on {l : List (GSem nD τ sig × ℕ)} {t : Thread nD τ} (h : ∀ p ∈ l, p.1.1 = t) (g : GSem nD τ sig) (hg : owedL l g ≠ 0) : g.1 = t := by
  induction l with
  | nil => exact absurd rfl hg
  | cons p l ih =>
    by_contra hn
    refine hg ?_
    show owedL l g + tallyAt p.1 () p.2 g = 0
    have h1 : owedL l g = 0 := by
      by_contra h0
      exact hn (ih (fun q hq => h q (List.mem_cons_of_mem _ hq)) h0)
    rw [h1, zero_add]
    ext
    rw [tallyAt_apply, if_neg (fun h' => hn (by rw [h'.1]; exact h p List.mem_cons_self))]; rfl

theorem dueTo_on (d : Dev nD) (g : GSem nD τ sig) (hg : dueTo d g ≠ 0) : g.1 = (d.tc : Thread nD τ) := by
  by_contra hn
  refine hg ?_
  have h1 : owedL ((ports d).map fun j => (readyCell j d, 1)) g = 0 := by
    by_contra h0
    exact hn (owedL_on (fun p hp => by obtain ⟨j, _, rfl⟩ := List.mem_map.mp hp; rfl) g h0)
  have h2 : owedIn d g = 0 := by
    by_contra h0
    exact hn (owedL_on (fun p hp => by obtain ⟨k, _, rfl⟩ := List.mem_map.mp hp; rfl) g h0)
  unfold dueTo
  show owedL _ g + (if d = 0 then 0 else owedIn d) g = 0
  rw [h1, zero_add]
  split
  · rfl
  · exact h2

theorem cred_owedL {I : Type} (l : List I) (f : I → GSem nD τ sig × ℕ) :
    (cred (owedL (l.map f)) : sProp 𝕄) ⊢ bigSepL l fun i => cred (tallyAt (f i).1 () (f i).2) := by
  induction l with
  | nil => exact Entails.of_eq cred_zero
  | cons i l ih =>
    rw [bigSepL_cons']
    refine ((cred_add _ _).1).trans ?_
    iintro ⟨H, Hi⟩
    isplitl [Hi]; · iexact Hi
    iapply ih $$ H

/-- Credits for its children's ready signals, and for the copies a device receives. -/
def credits (c : Dev nD) : sProp 𝕄 :=
  iprop((bigSepL (ports c) fun j => cred (tallyAt (readyCell j c) () 1))
    ∗ if c = 0 then iprop(emp) else bigSepL allK fun k => cred (tallyAt (recvCell k c) () (amt k)))

theorem deal_credits (c : Dev nD) : (Pipeline.launchCred O₀ c : sProp 𝕄) ⊢ credits c := by
  rw [Pipeline.launchCred_of_sum O₀ dueTo owed_sum dueTo_on c]
  unfold dueTo credits
  refine ((cred_add _ _).1).trans ?_
  iintro ⟨HR, HV⟩
  isplitl [HR]
  · iapply (cred_owedL (ports c) fun j => (readyCell j c, 1)) $$ HR
  by_cases h : c = 0
  · rw [if_pos h, if_pos h, cred_zero]; iempintro
  · rw [if_neg h, if_neg h]
    unfold owedIn
    iapply (cred_owedL allK fun k => (recvCell k c, amt k)) $$ HV

end Cert.KernelIdeal.Proto
-- ==== Proof.Run.lean ====
module

public import proofs.«01_k».proof.Proof.Deal

@[expose] public section

set_option maxRecDepth 16384

/-!
# The run of the kernel

The eight kernels, from the launch to the result arrays, over any float values.
-/

noncomputable section

namespace Cert.KernelIdeal.Proto

open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal.Flat

variable {F : FTy → Type} [FloatOps F]

local notation "𝕄" => MT nD τ sig Unit (Elt F) ℕ UU ℕ

variable (m : (ℓ : Loc nD τ sig) → Buf (Elt F) ℓ)

/-! ## The contents -/

/-- What device `c`'s result depends on: the source's first four operands, its own fifth. -/
def argsOf (c : Dev nD) : Args F where
  x := iblk m 0 0 t0_0
  wq := iblk m 0 1 t0_0
  k := iblk m 0 2 t0_0
  v := iblk m 0 3 t0_0
  wo := iblk m c 4 t0_0

/-- The context every device ends up with. -/
def ctxOf : Ctx F := ctx (argsOf m 0)
theorem ctx_argsOf (c : Dev nD) : ctx (argsOf m c) = ctxOf m := rfl

/-- Device `c`'s result. -/
def outAt (c : Dev nD) : Vec F S1x1024x1024 .f32 := if c = 0 then outSrc (argsOf m 0) else outRows (argsOf m c)

/-! ## Before and after the body -/

/-- A device's positions at its own semaphores. -/
def places (c : Dev nD) : sProp 𝕄 := bigSep Finset.univ fun i : SI => atPos ER (cellOfI (c, i)) 0 ∅ 0
/-- A device's own semaphores, all at zero. -/
def zeros (c : Dev nD) : sProp 𝕄 := bigSep Finset.univ fun i : SI => semVal (cellOfI (c, i)) 0

/-- What a device is dealt of the broadcast, -/
def G' (c : Dev nD) : sProp 𝕄 := iprop(∃ K, records (ctxOf m) K ∗ places c ∗ upTok c ∗ copyToks c)
/-- together with its credits and the levels. -/
def start (c : Dev nD) : sProp 𝕄 := iprop(G' m c ∗ credits c ∗ levAts L lv)

def scratches (c : Dev nD) : sProp 𝕄 := iprop((∃ f, held c cc0_scratch0 f) ∗ ∃ f, held c cc0_scratch1 f)
def Φ₀ (c : Dev nD) : sProp 𝕄 := iprop(start m c ∗ scratches c)
def Φ₁ (c : Dev nD) : sProp 𝕄 := iprop(zeros c ∗ scratches c)

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem before_0 (c : Dev nD) (t : Fin cfg0.N) (d) : (dats m 0 c).before (0 : Fin 6) t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before (1 : Fin 6) t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before (2 : Fin 6) t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before (3 : Fin 6) t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before (4 : Fin 6) t d = iblk m c 4 t :=
  ((dats m 0 c).before_in_eq_fetched 4 rfl (fun _ => rfl) (fun _ _ _ => rfl) (fun _ => rfl) t d).trans rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ held c b f) := by
  unfold owns held; simp only [Memref.view_whole, View.read_whole, View.set_whole]

/-! ## Closing unused semaphores -/

section Close

variable (C : Ctx F) (K : Dev nD × SI → ℕ)

theorem close_unused (c : Dev nD) (i : SI) (h : used c (semOf i) = false) :
    iprop(records C K ∗ atPos ER (cellOfI (c, i)) 0 ∅ 0) ⊢ |={Set.univ}=> (semVal (cellOfI (c, i)) 0 : sProp 𝕄) := by
  unfold records
  iintro ⟨⟨HI, -⟩, Ha⟩
  iapply (Rounds.cell_close ER (Rd C) (Set.mem_univ (K (c, i))) (fun h => h) (R := 0) (duties_unused C c (semOf i) h))
  isplitl [HI]
  · iapply (inv_at C K (c, i)) $$ HI
  iexact Ha

theorem close_list {I : Type} {R : sProp 𝕄} [BI.Persistent R] {P Q : I → sProp 𝕄} (l : List I)
    (h : ∀ i ∈ l, iprop(R ∗ P i) ⊢ |={Set.univ}=> Q i) : iprop(R ∗ bigSepL l P) ⊢ |={Set.univ}=> bigSepL l Q := by
  induction l with
  | nil => iintro ⟨-, H⟩; imodintro; iexact H
  | cons i l ih =>
    rw [bigSepL_cons', bigSepL_cons']
    iintro ⟨#HR, Hi, Hl⟩
    imod (h i List.mem_cons_self) $$ [Hi] with Hi
    · isplitr; · iexact HR
      iexact Hi
    imod (ih fun j hj => h j (List.mem_cons_of_mem _ hj)) $$ [Hl] with Hl
    · isplitr; · iexact HR
      iexact Hl
    imodintro
    isplitl [Hi] <;> iassumption

/-- The ready and send semaphores of ports with nothing hanging off them. -/
def idle (c : Dev nD) : sProp 𝕄 :=
  iprop((bigSepL (noPorts c) fun j => semVal (readyCell j c) 0) ∗ bigSepL (noPorts c) fun j => bigSepL allK fun k => semVal (sendCell j k c) 0)

/-- A device's positions, by use: its ports' ready and send semaphores, those with nothing hanging off already closed, and the
    receive semaphores. -/
theorem split_places (c : Dev nD) :
    iprop(records C K ∗ places c) ⊢ |={Set.univ}=> iprop((bigSepL (ports c) fun j => atPos ER (readyCell j c) 0 ∅ 0)
      ∗ (bigSepL (ports c) fun j => bigSepL allK fun k => atPos ER (sendCell j k c) 0 ∅ 0)
      ∗ (bigSepL allK fun k => atPos ER (recvCell k c) 0 ∅ 0) ∗ idle c) := by
  unfold places idle
  rw [univ_SI, allJ_split c, allJ_split c]
  iintro ⟨#HR, ⟨HrP, HrN⟩, ⟨HsP, HsN⟩, Hv⟩
  imod (close_list (R := records C K) (noPorts c) (fun j hj => close_unused C K c (.inl j) (unused_ready j c hj))) $$ [HrN] with HrN
  · isplitr; · iexact HR
    iexact HrN
  imod (close_list (R := records C K) (noPorts c) (fun j hj => close_list allK fun k _ =>
      close_unused C K c (.inr (.inl (j, k))) (unused_send j k c hj))) $$ [HsN] with HsN
  · isplitr; · iexact HR
    iexact HsN
  imodintro
  isplitl [HrP]; · iexact HrP
  isplitl [HsP]; · iexact HsP
  isplitl [Hv]; · iexact Hv
  isplitl [HrN]; · iexact HrN
  iexact HsN

/-- The source has no use of its receive semaphores. -/
theorem close_recv :
    iprop(records C K ∗ bigSepL allK fun k => atPos ER (recvCell k 0) 0 ∅ 0) ⊢ |={Set.univ}=> (bigSepL allK fun k => semVal (recvCell k 0) 0 : sProp 𝕄) :=
  close_list allK fun k _ => close_unused C K 0 (.inr (.inr k)) (unused_recv k)

theorem join_zeros (c : Dev nD) :
    iprop(endPorts c ∗ (bigSepL allK fun k => semVal (recvCell k c) 0) ∗ idle c) ⊢ (zeros c : sProp 𝕄) := by
  unfold zeros endPorts idle
  rw [univ_SI, allJ_split c, allJ_split c, bigSepL_swap]
  iintro ⟨⟨HrP, HsP⟩, Hv, HrN, HsN⟩
  isplitl [HrP HrN]
  · isplitl [HrP]; · iexact HrP
    iexact HrN
  isplitl [HsP HsN]
  · isplitl [HsP]; · iexact HsP
    iexact HsN
  iexact Hv

/-- What the ports start with. -/
theorem join_startPorts (c : Dev nD) :
    iprop((bigSepL (ports c) fun j => atPos ER (readyCell j c) 0 ∅ 0) ∗ (bigSepL (ports c) fun j => bigSepL allK fun k => atPos ER (sendCell j k c) 0 ∅ 0)
      ∗ copyToks c ∗ bigSepL (ports c) fun j => cred (tallyAt (readyCell j c) () 1)) ⊢ (startPorts c : sProp 𝕄) := by
  unfold startPorts readyIn tok copyToks
  simp only [bigSepL_sep]
  iintro ⟨Hr, Hs, ⟨HtS, HtV⟩, Hc⟩
  isplitl [Hr Hc]
  · isplitl [Hr] <;> iassumption
  isplitl [Hs]; · iexact Hs
  isplitl [HtS] <;> iassumption

end Close

/-! ## The body on one device -/

/-- A device's staging buffers as the body finds them, -/
def stgPre (c : Dev nD) : sProp 𝕄 :=
  iprop(held c cc0_stg0_0 (iblk m c 0 t0_0) ∗ held c cc0_stg1_0 (iblk m c 1 t0_0) ∗ held c cc0_stg2_0 (iblk m c 2 t0_0)
    ∗ held c cc0_stg3_0 (iblk m c 3 t0_0) ∗ held c cc0_stg4_0 (iblk m c 4 t0_0) ∗ ∃ f, held c cc0_stg5_0 f)
/-- and as it leaves them. -/
def stgPost (c : Dev nD) : sProp 𝕄 :=
  iprop(held c cc0_stg0_0 (iblk m c 0 t0_0) ∗ held c cc0_stg1_0 (iblk m c 1 t0_0) ∗ held c cc0_stg2_0 (iblk m c 2 t0_0)
    ∗ held c cc0_stg3_0 (iblk m c 3 t0_0) ∗ held c cc0_stg4_0 (iblk m c 4 t0_0) ∗ held c cc0_stg5_0 (outAt m c))

theorem scratch_pieces (c : Dev nD) (f : Ctx F) : held c cc0_scratch0 f ⊢ (pieces c : sProp 𝕄) := by
  unfold pieces
  rw [univ_allK]
  refine (Entails.of_eq (held_chunks c fullShare f)).trans (bigSepL_mono fun k _ => ?_)
  iintro H
  iexists f; iexact H

theorem run_source :
    iprop(Φ₀ m 0 ∗ owesE 0 (owedUp 0 ++ due 0 allK) ∗ stgPre m 0)
      ⊢ wp frame (wpE (defs₀ (F := F)) 𝒱₀ ((0 : Dev nD) : Thread nD τ) none) Set.univ (progOf 0)
          (fun _ => iprop(Φ₁ 0 ∗ owesE 0 [] ∗ stgPost m 0)) := by
  unfold Φ₀ start G' scratches credits stgPre
  rw [if_pos rfl]
  iintro ⟨⟨⟨⟨%K, #HR, Hat, -, Htk⟩, ⟨Hcr, -⟩, #Hlev⟩, Hs0, Hs1⟩, HO, H0, H1, H2, H3, H4, H5⟩
  iapply fupd_wp
  imod (split_places (ctxOf m) K 0) $$ [Hat] with ⟨Hr, Hs, Hv, Hidle⟩
  · isplitr; · iexact HR
    iexact Hat
  imod (close_recv (ctxOf m) K) $$ [Hv] with Hv
  · isplitr; · iexact HR
    iexact Hv
  imodintro
  iapply (tri_src (K := K) (argsOf m 0) (fun _ => iprop(Φ₁ 0 ∗ owesE 0 [] ∗ stgPost m 0)))
  isplitr
  · unfold env
    isplitr; · iexact HR
    iexact Hlev
  isplitl [HO Hr Hs Htk Hcr H0 H1 H2 H3 H4 H5 Hs0 Hs1]
  · isplitl [HO]; · iexact HO
    isplitl [Hr Hs Htk Hcr]
    · iapply (join_startPorts 0)
      isplitl [Hr]; · iexact Hr
      isplitl [Hs]; · iexact Hs
      isplitl [Htk] <;> iassumption
    isplitl [H0 H1 H2 H3 Hs0 Hs1]
    · isplitl [H0 H1 H2 H3]
      · isplitl [H0]; · iexact H0
        isplitl [H1]; · iexact H1
        isplitl [H2]; · iexact H2
        iexact H3
      isplitl [Hs0]; · iexact Hs0
      iexact Hs1
    isplitl [H4]; · iexact H4
    iexact H5
  iintro ⟨HO, He, ⟨⟨H0, H1, H2, H3⟩, Hs0, Hs1⟩, H4, H5⟩
  unfold Φ₁ scratches stgPost
  isplitl [He Hv Hidle Hs0 Hs1]
  · isplitl [He Hv Hidle]
    · iapply (join_zeros 0)
      isplitl [He]; · iexact He
      isplitl [Hv] <;> iassumption
    isplitl [Hs0]
    · iexists _; iexact Hs0
    iexists _; iexact Hs1
  isplitl [HO]; · iexact HO
  isplitl [H0]; · iexact H0
  isplitl [H1]; · iexact H1
  isplitl [H2]; · iexact H2
  isplitl [H3]; · iexact H3
  isplitl [H4]; · iexact H4
  unfold outAt; rw [if_pos rfl]; iexact H5

theorem run_receiver (c : Dev nD) (hc : c ≠ 0) :
    iprop(Φ₀ m c ∗ owesE c (owedUp c ++ due c allK) ∗ stgPre m c)
      ⊢ wp frame (wpE (defs₀ (F := F)) 𝒱₀ (c : Thread nD τ) none) Set.univ (progOf c)
          (fun _ => iprop(Φ₁ c ∗ owesE c [] ∗ stgPost m c)) := by
  unfold Φ₀ start G' scratches credits stgPre upTok owedUp
  rw [if_neg hc, if_neg hc, if_neg hc]
  iintro ⟨⟨⟨⟨%K, #HR, Hat, Hup, Htk⟩, ⟨Hcr, HcV⟩, #Hlev⟩, ⟨%f, Hs0⟩, Hs1⟩, HO, H0, H1, H2, H3, H4, H5⟩
  iapply fupd_wp
  imod (split_places (ctxOf m) K c) $$ [Hat] with ⟨Hr, Hs, Hv, Hidle⟩
  · isplitr; · iexact HR
    iexact Hat
  imodintro
  iapply (tri_rcv (K := K) (argsOf m c) c hc (fun _ => iprop(Φ₁ c ∗ owesE c [] ∗ stgPost m c)))
  isplitr
  · rw [ctx_argsOf]
    unfold env
    isplitr; · iexact HR
    iexact Hlev
  isplitl [HO Hup Hr Hs Htk Hcr Hv HcV H4 H5 Hs0]
  · isplitl [HO]; · iexact HO
    isplitl [Hup Hs0]
    · isplitl [Hup]; · iexact Hup
      iapply (scratch_pieces c f) $$ Hs0
    isplitl [Hr Hs Htk Hcr]
    · iapply (join_startPorts c)
      isplitl [Hr]; · iexact Hr
      isplitl [Hs]; · iexact Hs
      isplitl [Htk] <;> iassumption
    isplitl [Hv HcV]
    · rw [bigSepL_sep]
      isplitl [Hv] <;> iassumption
    isplitl [H4]; · iexact H4
    iexact H5
  iintro ⟨HO, He, Hv, Hs0, H4, H5⟩
  unfold Φ₁ scratches stgPost
  isplitl [He Hv Hidle Hs0 Hs1]
  · isplitl [He Hv Hidle]
    · iapply (join_zeros c)
      isplitl [He]; · iexact He
      isplitl [Hv] <;> iassumption
    isplitl [Hs0]
    · iexists _; iexact Hs0
    iexact Hs1
  isplitl [HO]; · iexact HO
  isplitl [H0]; · iexact H0
  isplitl [H1]; · iexact H1
  isplitl [H2]; · iexact H2
  isplitl [H3]; · iexact H3
  isplitl [H4]; · iexact H4
  unfold outAt; rw [if_neg hc]; iexact H5

theorem run_device (c : Dev nD) :
    iprop(Φ₀ m c ∗ owesE c (owedUp c ++ due c allK) ∗ stgPre m c)
      ⊢ wp frame (wpE (defs₀ (F := F)) 𝒱₀ (c : Thread nD τ) none) Set.univ (bodyAt0 t0_0)
          (fun _ => iprop(Φ₁ c ∗ owesE c [] ∗ stgPost m c)) := by
  obtain ⟨k, hk⟩ := body_op (F := F)
  have hf := flat (F := F) c
  rw [hk] at hf ⊢
  rw [wp_deviceId]
  rw [show k c = progOf c from hf]
  by_cases hc : c = 0
  · subst hc; exact run_source m
  · exact run_receiver m c hc

/-! ## The body's obligation -/

def bodyPre (c : Dev nD) : sProp 𝕄 :=
  iprop(Φ₀ m c ∗ (dats m 0 c).owesAt () t0_0.castSucc
    ∗ (∃ d, ∃ f, ⌜f = (dats m 0 c).before (0 : Fin 6) t0_0 d⌝ ∗ held c cc0_stg0_0 f)
    ∗ (∃ d, ∃ f, ⌜f = (dats m 0 c).before (1 : Fin 6) t0_0 d⌝ ∗ held c cc0_stg1_0 f)
    ∗ (∃ d, ∃ f, ⌜f = (dats m 0 c).before (2 : Fin 6) t0_0 d⌝ ∗ held c cc0_stg2_0 f)
    ∗ (∃ d, ∃ f, ⌜f = (dats m 0 c).before (3 : Fin 6) t0_0 d⌝ ∗ held c cc0_stg3_0 f)
    ∗ (∃ d, ∃ f, ⌜f = (dats m 0 c).before (4 : Fin 6) t0_0 d⌝ ∗ held c cc0_stg4_0 f)
    ∗ (∃ d, ∃ f, ⌜f = (dats m 0 c).before (5 : Fin 6) t0_0 d⌝ ∗ held c cc0_stg5_0 f))
def bodyPost (c : Dev nD) : sProp 𝕄 :=
  iprop(Φ₁ c ∗ (dats m 0 c).owesAt () t0_0.succ
    ∗ (∃ f, ⌜f = iblk m c 0 t0_0⌝ ∗ held c cc0_stg0_0 f)
    ∗ (∃ f, ⌜f = iblk m c 1 t0_0⌝ ∗ held c cc0_stg1_0 f)
    ∗ (∃ f, ⌜f = iblk m c 2 t0_0⌝ ∗ held c cc0_stg2_0 f)
    ∗ (∃ f, ⌜f = iblk m c 3 t0_0⌝ ∗ held c cc0_stg3_0 f)
    ∗ (∃ f, ⌜f = iblk m c 4 t0_0⌝ ∗ held c cc0_stg4_0 f)
    ∗ (∃ f, ⌜f = outAt m c⌝ ∗ held c cc0_stg5_0 f))

theorem pre_enough (c : Dev nD) : bodyPre m c ⊢ iprop(Φ₀ m c ∗ owesE c (owedUp c ++ due c allK) ∗ stgPre m c) := by
  unfold bodyPre stgPre owesE Dat.owesAt Pipeline.owesWithin
  iintro ⟨HΦ, ⟨%W, -, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before_0] at h0; rw [before_1] at h1; rw [before_2] at h2; rw [before_3] at h3; rw [before_4] at h4
  subst h0 h1 h2 h3 h4
  isplitl [HΦ]; · iexact HΦ
  isplitl [HO]
  · iexists W; iexact HO
  isplitl [H0]; · iexact H0
  isplitl [H1]; · iexact H1
  isplitl [H2]; · iexact H2
  isplitl [H3]; · iexact H3
  isplitl [H4]; · iexact H4
  iexists f5; iexact H5

theorem post_enough (c : Dev nD) : iprop(Φ₁ c ∗ owesE c [] ∗ stgPost m c) ⊢ bodyPost m c := by
  unfold bodyPost stgPost owesE Dat.owesAt Pipeline.owesWithin
  iintro ⟨HΦ, ⟨%W, HO⟩, H0, H1, H2, H3, H4, H5⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem body_obligation (c : Dev nD) : BodyObligation (dats m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ (bodyAt0 t0_0) (fun _ => bodyPost m c)
  refine (pre_enough m c).trans ((run_device m c).trans ?_)
  apply Idealize.SL.Sem.wp_mono
  intro _
  exact post_enough m c

/-! ## The launch -/

theorem ownSemFacts : Pipeline.OwnSemFacts cfg0.spec semOf := by decide
theorem share_eq (c : Dev nD) (w : Fin cfg0.W) : (dats m 0 c).share w = fullShare := by unfold Dat.share; split <;> rfl

theorem semOf_injective : Function.Injective semOf := by decide
theorem cellOfI_injective : Function.Injective (cellOfI : Dev nD × SI → GSem nD τ sig) := by
  rintro ⟨c, i⟩ ⟨c', i'⟩ h
  have h1 : c = c' := by have := congrArg (fun g : GSem nD τ sig => g.1.1) h; exact this
  have h2 : i = i' := semOf_injective (congrArg Prod.snd h)
  rw [h1, h2]

def castCells : Finset (GSem nD τ sig) := Finset.univ.map ⟨cellOfI, cellOfI_injective⟩
def castToks : Finset (GSem nD τ sig × ℕ × Unit) :=
  Finset.univ.map ⟨fun p : Dev nD × SI => (cellOfI p, 0, ()), fun _ _ h => cellOfI_injective (congrArg Prod.fst h)⟩

def u₀ : UU := (initOf (Pipeline.cells cfgs cellOf_inj) (Pipeline.launchToks cfgs cellOf_inj), initOf castCells castToks)

/-- What the launch makes of the broadcast on each device, before it is dealt out. -/
def G (c : Dev nD) : sProp 𝕄 :=
  iprop((bigSep Finset.univ fun i : SI => roundState ER (Rd (ctxOf m)) (cellOfI (c, i)) 0)
    ∗ (bigSep Finset.univ fun i : SI => reached ER (cellOfI (c, i)) 0) ∗ places c ∗ bigSep Finset.univ fun i : SI => dutyTok ER (cellOfI (c, i)) 0 ())

theorem fund_cast : BI.own (ER (initOf castCells castToks)) ⊢ (|==> bigSep Finset.univ (G m) : sProp 𝕄) := by
  have hX (Φ : GSem nD τ sig → sProp 𝕄) : bigSep castCells Φ = bigSep Finset.univ fun c : Dev nD => bigSep Finset.univ fun i : SI => Φ (cellOfI (c, i)) := by
    unfold castCells; rw [bigSep_map, bigSep_univ_prod]; rfl
  have hT : bigSep castToks (fun x => (dutyTok ER x.1 x.2.1 x.2.2 : sProp 𝕄))
      = bigSep Finset.univ fun c : Dev nD => bigSep Finset.univ fun i : SI => dutyTok ER (cellOfI (c, i)) 0 () := by
    unfold castToks; rw [bigSep_map, bigSep_univ_prod]; rfl
  iintro HX
  imod (Rounds.fund ER (Rd (ctxOf m)) castCells castToks) $$ HX with ⟨Hst, Hr, Hat, Htok⟩
  imodintro
  ihave Hst' := (Entails.of_eq (hX fun g => roundState ER (Rd (ctxOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places
  rw [bigSep_sep', bigSep_sep', bigSep_sep']
  isplitl [Hst']; · iexact Hst'
  isplitl [Hr']; · iexact Hr'
  isplitl [Hat'] <;> iassumption

theorem ownSems0_eq (c : Dev nD) :
    (Pipeline.ownSems0 (Ix := Unit) (Name := ℕ) (U := UU) (Lvl := ℕ) (Val := Elt F) (τ := τ) semOf c : sProp 𝕄) = zeros c := rfl

/-- The invariants of a device's cells, allocated from its semaphores at zero. -/
theorem core_alloc (c : Dev nD) :
    iprop(zeros c ∗ G m c) ⊢ |={Set.univ}=> iprop((bigSep Finset.univ fun i : SI => iprop(∃ κ : ℕ, cellInv ER (Rd (ctxOf m)) κ (cellOfI (c, i))))
      ∗ (bigSep Finset.univ fun i : SI => reached ER (cellOfI (c, i)) 0) ∗ places c ∗ bigSep Finset.univ fun i : SI => dutyTok ER (cellOfI (c, i)) 0 ()) := by
  unfold G zeros
  iintro ⟨Hv, Hst, Hr, Hat, Htok⟩
  imod (show iprop((bigSep Finset.univ fun i : SI => semVal (cellOfI (c, i)) 0) ∗ bigSep Finset.univ fun i : SI => roundState ER (Rd (ctxOf m)) (cellOfI (c, i)) 0)
      ⊢ (|={Set.univ}=> bigSep Finset.univ fun i : SI => iprop(∃ κ : ℕ, cellInv ER (Rd (ctxOf m)) κ (cellOfI (c, i))) : sProp 𝕄) from by
        rw [← bigSep_sep']
        exact (bigSep_mono fun i _ => (Rounds.body_intro ER (Rd (ctxOf m)) (cellOfI (c, i))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : SI => iprop(∃ κ : ℕ, cellInv ER (Rd (ctxOf m)) κ (cellOfI (c, i))))
      ∗ (bigSep Finset.univ fun i : SI => reached ER (cellOfI (c, i)) 0) ∗ places c ∗ bigSep Finset.univ fun i : SI => dutyTok ER (cellOfI (c, i)) 0 ()) : sProp 𝕄)
      ⊢ bigSep Finset.univ (G' m) := by
  rw [bigSep_sep', bigSep_sep', bigSep_sep', ← bigSep_univ_prod (fun p : Dev nD × SI => iprop(∃ κ : ℕ, cellInv ER (Rd (ctxOf m)) κ (cellOfI p))),
    ← bigSep_univ_prod (fun p : Dev nD × SI => (reached ER (cellOfI p) 0 : sProp 𝕄))]
  iintro ⟨HI, #HR, Hat, Htok⟩
  ihave HK := (BI.bigSep_exists_pi Finset.univ (fun (p : Dev nD × SI) (κ : ℕ) => (cellInv ER (Rd (ctxOf m)) κ (cellOfI p) : sProp 𝕄))) $$ HI
  icases HK with ⟨%K, #HI⟩
  ihave Htk := (deal_toks (F := F)) $$ Htok
  iapply (bigSep_keep (R := records (ctxOf m) K) (Φ := fun c => iprop(places c ∗ upTok c ∗ copyToks c)) fun c _ => by
    unfold G'
    iintro ⟨#HR, H⟩
    iexists K
    isplitr; · iexact HR
    iexact H)
  isplitr
  · unfold records
    isplitl; · iexact HI
    iexact HR
  · iapply (Entails.of_eq (bigSep_sep' Finset.univ (fun c : Dev nD => (places c : sProp 𝕄)) (fun c => iprop(upTok c ∗ copyToks c))).symm)
    isplitl [Hat] <;> iassumption

theorem glob : (bigSep Finset.univ fun c => iprop(Pipeline.ownSems0 (Ix := Unit) (Name := ℕ) (U := UU) (Lvl := ℕ) (Val := Elt F) (τ := τ) semOf c ∗ G m c) : sProp 𝕄)
    ⊢ |={Set.univ}=> bigSep Finset.univ (G' m) :=
  ((bigSep_mono fun c _ => core_alloc m c).trans (bigSep_fupd _ _)).trans (BI.fupd_mono (regroup m))

variable (ρ : Dev nD → PrngReg)

theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ G' m c)
      ⊢ |={Set.univ}=> iprop(start m c ∗ emp) := by
  iintro ⟨-, -, Hlev, Hcr, -, HG⟩
  ihave Hc := (deal_credits (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches held
  iintro ⟨Hs, -, Hr⟩
  isplitl [Hs] <;> iassumption

theorem phi1_exit (c : Dev nD) :
    (dats m 0 c).Φ (Fin.last cfg0.N) ⊢ iprop(emp ∗ Pipeline.ownSems0 semOf c ∗ Pipeline.scopedRest cfg0.spec c) := by
  rw [show (dats m 0 c).Φ (Fin.last cfg0.N) = Φ₁ c from rfl, scopedRest0_eq, ownSems0_eq]
  unfold Φ₁ scratches held
  iintro ⟨Hz, Hr⟩
  isplitr; · iempintro
  isplitl [Hz] <;> iassumption

/-- Everything owed is above level zero. -/
theorem above_stage (c : Dev nD) : ∀ p ∈ owedUp c ++ due c allK, p.1.1.2 = .tc ∧ 0 < lvl p.1 := by
  intro p hp
  rcases List.mem_append.mp hp with h | h
  · unfold owedUp at h
    split at h
    · exact absurd h List.not_mem_nil
    · rw [List.mem_singleton.mp h]; exact ⟨rfl, Nat.one_pos⟩
  · exact ⟨(above_sends c allK p h).1, Nat.lt_of_le_of_lt (Nat.zero_le _) (above_sends c allK p h).2⟩

theorem waits (c : Dev nD) : (levAts L lv : sProp 𝕄) ⊢ Pipeline.cellsWaits cfgs (dats m) () 0 c :=
  Pipeline.cellsWaits_intro cfgs (dats m) () 0 c fun w s t => by
    have h0 : lvl (((c : Dev nD) : Thread nD τ), .dma ((cfg0.spec w).sem s)) = 0 := by
      have : ((cfg0.spec w).sem s).val < 36 := by revert w s; decide
      exact if_pos this
    rcases t with ⟨_ | _, ht⟩
    · exact mayWait c _ (owedUp c ++ due c allK) fun p hp => by rw [h0]; exact above_stage c p hp
    · exact mayWait c _ [] fun p hp => absurd hp List.not_mem_nil

/-! ## The run -/

/-- The contents the run leaves in device `c`'s array for window `w`. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with zero counters, for any float values: every weakly fair execution of the eight kernels terminates, and
    every final state has each device's arrays at their final contents and every semaphore counter at zero. -/
theorem run_main : θ_run defs (onTc (τ := τ) (main (F := F))) (s₀ m ρ) (fun r => QC m r ∧ r.2.sem = fun _ => 0) :=
  Pipeline.θ_run_region_owing_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cast m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide) hs⟩)

end Cert.KernelIdeal.Proto
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

set_option maxRecDepth 16384

/-!
# The frames

Each program ends with its arguments unchanged and every semaphore counter at zero.
-/

noncomputable section

namespace Cert.Proof

open Idealize.ShloMosaic Idealize.ShloMosaic.TcCoe Idealize.SL.Sem
open Cert.KernelIdeal Cert.KernelIdeal.Gen Cert.KernelIdeal.Proto

section Final

variable {F : FTy → Type} [FloatOps F] (m : (ℓ : Loc nD τ sig) → Buf (Elt F) ℓ) (c : Dev nD)

/-- A device's array of the input ends as it began. -/
theorem final_0 : finalA m c (0 : Fin 6) = m ((c : Thread nD τ).loc main_arg0) := (dats m 0 c).arrAt_in (0 : Fin 6) rfl _
/-- A device's array of `Wq` ends as it began. -/
theorem final_1 : finalA m c (1 : Fin 6) = m ((c : Thread nD τ).loc main_arg1) := (dats m 0 c).arrAt_in (1 : Fin 6) rfl _
/-- A device's array of the keys ends as it began. -/
theorem final_2 : finalA m c (2 : Fin 6) = m ((c : Thread nD τ).loc main_arg2) := (dats m 0 c).arrAt_in (2 : Fin 6) rfl _
/-- A device's array of the values ends as it began. -/
theorem final_3 : finalA m c (3 : Fin 6) = m ((c : Thread nD τ).loc main_arg3) := (dats m 0 c).arrAt_in (3 : Fin 6) rfl _
/-- A device's array of `Wo` ends as it began. -/
theorem final_4 : finalA m c (4 : Fin 6) = m ((c : Thread nD τ).loc main_arg4) := (dats m 0 c).arrAt_in (4 : Fin 6) rfl _

/-- What the final arrays say of the arguments. -/
theorem args_kept {m : (ℓ : Loc nD τ sig) → Buf (Elt F) ℓ} {r : PUnit × MemSt nD τ sig (Elt F)} (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c (0 : Fin 6)).trans (final_0 m c), (h c (1 : Fin 6)).trans (final_1 m c), (h c (2 : Fin 6)).trans (final_2 m c),
    (h c (3 : Fin 6)).trans (final_3 m c), (h c (4 : Fin 6)).trans (final_4 m c)⟩

end Final

/-- The idealized program returns from every state and leaves its arguments as they were. -/
theorem frame_ideal : Cert.quiescent_KernelIdeal := fun m ρ _ =>
  (θ_run Cert.KernelIdeal.defs _ _).mono (fun _ h => ⟨args_kept h.1, h.2⟩) (run_main (F := Ideal) m ρ)

/-- The reference returns from every state and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Same

variable {F : FTy → Type} [FloatOps F] [Cert.Kernel.Facts] [Cert.KernelIdeal.Facts]

/-- The word program's body table is the idealized program's. -/
theorem bodies_same : Cert.Kernel.defs₀ (F := F) = Cert.KernelIdeal.defs₀ (F := F) := by
  unfold Cert.Kernel.defs₀ Cert.KernelIdeal.defs₀
  refine congrArg Defs.onTc ?_
  funext l a
  obtain ⟨_ | l, hl⟩ := l
  · obtain ⟨t, s⟩ := a
    rfl
  · exact absurd hl (Nat.not_lt.2 (Nat.le_add_left _ _))

/-- So are the definitions the two programs run under. -/
theorem defs_same : Cert.Kernel.defs (F := F) = Cert.KernelIdeal.defs (F := F) :=
  congrArg (Pipeline.defs Cert.Kernel.pcfgs) bodies_same

end Same

/-- The word program returns from every state and leaves its arguments as they were. -/
theorem frame_kernel : Cert.quiescent_Kernel := fun m ρ _ => by
  rw [defs_same]
  exact (θ_run Cert.KernelIdeal.defs _ _).mono (fun _ h => ⟨args_kept h.1, h.2⟩) (run_main (F := Bits) m ρ)

end Cert.Proof
-- ==== Proof.RefParts.lean ====
module

public import proofs.«01_k».proof.Proof.Gen.ReferenceIdeal.Run

@[expose] public section

set_option maxRecDepth 16384

/-!
# The reference in steps

The reference's composed result, cut into the steps of the attention it computes: block numbers, mask, scores, weights, average,
product with `Wo`.
-/

noncomputable section

namespace Cert.ReferenceIdeal.Value

open Cert.ReferenceIdeal Cert.ReferenceIdeal.Gen Idealize.ShloMosaic Idealize.ShloMosaic.TcCoe

/-- The block of 64 that each of the 1024 rows lies in, -/
def rowBlk : IVec S1024 32 :=
  have n : IVec S1024 32 := iotaInDim S1024 32 0
  have c : IVec S1024 32 := broadcastInDim S1024 ![] bcast_S_S1024 (id (constantI S_ 32 64#32))
  select (andi (cmpi .ne (signi n) (broadcastInDim S1024 ![] bcast_S_S1024 (signi (id (constantI S_ 32 64#32)))))
      (cmpi .ne (Host.remsi n c) (broadcastInDim S1024 ![] bcast_S_S1024 (constantI S_ 32 0#32))))
    (subi (Host.divsi n c) (broadcastInDim S1024 ![] bcast_S_S1024 (constantI S_ 32 1#32))) (Host.divsi n c)

/-- the block each of the 8192 keys lies in, -/
def keyBlk : IVec S8192 32 :=
  have n : IVec S8192 32 := iotaInDim S8192 32 0
  have c : IVec S8192 32 := broadcastInDim S8192 ![] bcast_S_S8192 (id (constantI S_ 32 64#32))
  select (andi (cmpi .ne (signi n) (broadcastInDim S8192 ![] bcast_S_S8192 (signi (id (constantI S_ 32 64#32)))))
      (cmpi .ne (Host.remsi n c) (broadcastInDim S8192 ![] bcast_S_S8192 (constantI S_ 32 0#32))))
    (subi (Host.divsi n c) (broadcastInDim S8192 ![] bcast_S_S8192 (constantI S_ 32 1#32))) (Host.divsi n c)

/-- and which keys a row sees. -/
def seen : IVec S1024x8192 1 :=
  cmpi .sle (broadcastInDim S1024x8192 ![0, 1] bcast_S1x8192_S1024x8192_0_1 (broadcastInDim S1x8192 ![1] bcast_S8192_S1x8192_1 keyBlk))
    (broadcastInDim S1024x8192 ![0, 1] bcast_S1024x1_S1024x8192_0_1 (broadcastInDim S1024x1 ![0] bcast_S1024_S1024x1_0 rowBlk))

/-- Whether a row sees any key. -/
def keeps : IVec S1024 1 := Host.reduce IntOp.ori seen (constantI S_ 1 0#1) reducesTo_S1024x8192_S1024_d1 h_S_

variable {F : FTy → Type} [FloatOps F]

/-- The scores, scaled and masked. -/
def scores (x : FVec F S1x1024x1024 .f32) (wq : FVec F S1024x1024 .f32) (k : FVec F S1x8192x8x128 .f32) : FVec F S1x8x1024x8192 .f32 :=
  select (broadcastInDim S1x8x1024x8192 ![0, 1, 2, 3] bcast_S1x1x1024x8192_S1x8x1024x8192_0_1_2_3
      (broadcastInDim S1x1x1024x8192 ![2, 3] bcast_S1024x8192_S1x1x1024x8192_2_3 seen))
    (mulf (Host.dotGeneral dot_S1x1024x8x128_S1x8192x8x128_S1x8x1024x8192_3_3_1_1_02_02 none
        (shapeCast _ (Host.dotGeneral dot_S1x1024x1024_S1024x1024_S1x1024x1024_2_0_01_1_n_n none x wq) shapeCasts_S1x1024x1024_S1x1024x8x128) k)
      (broadcastInDim S1x8x1024x8192 ![] bcast_S_S1x8x1024x8192 (constant S_ .f32 0x3DB504F3#32)))
    (broadcastInDim S1x8x1024x8192 ![] bcast_S_S1x8x1024x8192 (id (constant S_ .f32 0xFF800000#32)))

/-- The maximum of each row, -/
def rowMax (s : FVec F S1x8x1024x8192 .f32) : FVec F S1x8x1024 .f32 :=
  Host.reduce FloatOps.maximumf s (constant S_ .f32 0xFF800000#32) reducesTo_S1x8x1024x8192_S1x8x1024_d3 h_S_

/-- and its sum. -/
def rowSum (s : FVec F S1x8x1024x8192 .f32) : FVec F S1x8x1024 .f32 :=
  Host.reduceAdd s (constant S_ .f32 0x00000000#32) reducesTo_S1x8x1024x8192_S1x8x1024_d3 h_S_

/-- The exponentials of scores shifted by their row's maximum. -/
def exps (s : FVec F S1x8x1024x8192 .f32) : FVec F S1x8x1024x8192 .f32 :=
  Host.exp (subf s (broadcastInDim S1x8x1024x8192 ![0, 1, 2, 3] bcast_S1x8x1024x1_S1x8x1024x8192_0_1_2_3
    (broadcastInDim S1x8x1024x1 ![0, 1, 2] bcast_S1x8x1024_S1x8x1024x1_0_1_2
      (rowMax s))))

/-- Whether a row sees any key, over the heads and one column, -/
def keepsCol : IVec S1x8x1024x1 1 :=
  broadcastInDim S1x8x1024x1 ![0, 1, 2, 3] bcast_S1x1x1024x1_S1x8x1024x1_0_1_2_3
    (broadcastInDim S1x1x1024x1 ![2] bcast_S1024_S1x1x1024x1_2 keeps)

/-- and over the heads and keys. -/
def keepsAll : IVec S1x8x1024x8192 1 :=
  broadcastInDim S1x8x1024x8192 ![0, 1, 2, 3] bcast_S1x1x1024x1_S1x8x1024x8192_0_1_2_3
    (broadcastInDim S1x1x1024x1 ![2] bcast_S1024_S1x1x1024x1_2 keeps)

/-- What a row is divided by: its sum, or one where it sees no key. -/
def den (e : FVec F S1x8x1024x8192 .f32) : FVec F S1x8x1024x1 .f32 :=
  select keepsCol (broadcastInDim S1x8x1024x1 ![0, 1, 2] bcast_S1x8x1024_S1x8x1024x1_0_1_2 (rowSum e))
    (broadcastInDim S1x8x1024x1 ![] bcast_S_S1x8x1024x1 (id (constant S_ .f32 0x3F800000#32)))

/-- The rows divided. -/
def quot (e : FVec F S1x8x1024x8192 .f32) : FVec F S1x8x1024x8192 .f32 :=
  Host.divf e (broadcastInDim S1x8x1024x8192 ![0, 1, 2, 3] bcast_S1x8x1024x1_S1x8x1024x8192_0_1_2_3 (den e))

/-- The weights from exponentials: each over its row's sum. -/
def weights (e : FVec F S1x8x1024x8192 .f32) : FVec F S1x8x1024x8192 .f32 :=
  select keepsAll (quot e) (broadcastInDim S1x8x1024x8192 ![] bcast_S_S1x8x1024x8192 (id (constant S_ .f32 0x00000000#32)))

/-- The result from the weights: their averages of the values, times `Wo`. -/
def project (w : FVec F S1x8x1024x8192 .f32) (v : FVec F S1x8192x8x128 .f32) (wo : FVec F S1024x1024 .f32) : FVec F S1x1024x1024 .f32 :=
  Host.dotGeneral dot_S1x1024x1024_S1024x1024_S1x1024x1024_2_0_01_1_n_n none
    (shapeCast _ (transpose S1x1024x8x128 [0, 3, 1, 2]
      (Host.dotGeneral dot_S1x8192x8x128_S1x8x1024x8192_S1x8x128x1024_1_3_3_2_02_01 none v w)
      transposes_S1x8x128x1024_S1x1024x8x128_0_3_1_2) shapeCasts_S1x1024x8x128_S1x1024x1024) wo

/-- The reference's result is these steps one after another. -/
theorem res_steps (m : (ℓ : Loc nD τ sig) → Buf (Elt F) ℓ) (c : Dev nD) :
    res_main_v33 m c = project (weights (exps (scores (m ((c.tc : Thread nD τ).loc main_arg0)) (m ((c.tc : Thread nD τ).loc main_arg1))
      (m ((c.tc : Thread nD τ).loc main_arg2))))) (m ((c.tc : Thread nD τ).loc main_arg3)) (m ((c.tc : Thread nD τ).loc main_arg4)) := rfl

end Cert.ReferenceIdeal.Value
-- ==== Proof.Words.lean ====
module

public import Idealize.ShloMosaic.Lib.Routing.Words
public import Idealize.ShloMosaic.Lib.WordCmp
public import Idealize.ShloMosaic.Lib.Pointwise
public import proofs.«01_k».proof.Proof.Flat
public import proofs.«01_k».proof.Proof.RefParts

@[expose] public section

set_option maxRecDepth 16384

/-!
# Block numbers as words

The kernel and the reference divide positions by 64 on 32-bit words, rounding down.  On the positions that occur the division
is that of naturals, and the masks say which block of 64 comes first.
-/

noncomputable section

namespace Cert.KernelIdeal.Flat

open Idealize.ShloMosaic Idealize.ShloMosaic.Routing

/-- A select that corrects a quotient where the remainder is not zero and the signs differ keeps the quotient of a natural: either
    the remainder is zero or both signs are one. -/
theorem keep_quotient (c d q q' : BitVec 32) (n : ℕ) (h1 : n ≠ 0 → c = d) (h0 : n % 64 = 0 ∨ n ≠ 0) :
    Scalar.select (IntOp.andi (IntOp.cmpi .ne c d) (IntOp.cmpi .ne (BitVec.ofNat 32 (n % 64)) 0#32)) q q' = q' := by
  have key : IntOp.andi (IntOp.cmpi .ne c d) (IntOp.cmpi .ne (BitVec.ofNat 32 (n % 64)) 0#32) = 0#1 := by
    by_cases hn : n = 0
    · subst hn
      have e : IntOp.cmpi .ne (BitVec.ofNat 32 (0 % 64)) 0#32 = 0#1 := by decide
      rw [e]
      exact BitVec.and_zero
    · rw [h1 hn]
      have e : IntOp.cmpi .ne d d = 0#1 := by simp [IntOp.cmpi]
      rw [e]
      exact BitVec.zero_and
  rw [key]
  rfl

/-- The kernel's division by 64 of a small natural. -/
theorem div64_at (b : Fin 4) (v : IVec (SS b) 32) (r : Fin 256) (j : Fin (nk b)) (n : ℕ) (hn : n < 8192) (hv : v (ix2 r j) = BitVec.ofNat 32 n) :
    div64 v (ix2 r j) = BitVec.ofNat 32 (n / 64) := by
  unfold div64
  pointwise [hv]
  rw [divsi_word _ (by omega : n < 2 ^ 31) (by decide : 0 < 64) (by decide), remsi_word _ (by omega : n < 2 ^ 31) (by decide : 0 < 64) (by decide)]
  refine keep_quotient _ _ _ _ n (fun h => ?_) (by omega)
  rw [show (0#32) = BitVec.ofNat 32 0 from rfl, WordCmp.cmpi_sgt_ofNat (by omega : n < 2 ^ (32 - 1)) (by decide),
    WordCmp.cmpi_slt_ofNat (by omega : n < 2 ^ (32 - 1)) (by decide), decide_eq_true (by omega : 0 < n), decide_eq_false (by omega : ¬ n < 0)]
  decide

/-- The kernel's mask: row `r` of block `b` sees key `j` where the key's block of 64 is not after the row's. -/
theorem mask_at (b : Fin 4) (r : Fin 256) (j : Fin (nk b)) :
    mask b (ix2 r j) = BitVec.ofBool (decide (j.val / 64 ≤ (256 * b.val + r.val) / 64)) := by
  have hj := j.isLt
  have hr := r.isLt
  have hb := b.isLt
  have hnk : nk b = 256 * (b.val + 1) := rfl
  unfold mask
  pointwise
  rw [div64_at b _ r j j.val (by omega) (by pointwise), div64_at b _ r j r.val (by omega) (by pointwise)]
  have e : IntOp.addi (BitVec.ofNat 32 (r.val / 64)) (BitVec.ofNat 32 (4 * b.val)) = BitVec.ofNat 32 ((256 * b.val + r.val) / 64) := by
    show BitVec.ofNat 32 (r.val / 64) + BitVec.ofNat 32 (4 * b.val) = _
    rw [← BitVec.ofNat_add]
    congr 1
    omega
  rw [e, WordCmp.cmpi_sle_ofNat (by omega) (by omega)]

end Cert.KernelIdeal.Flat

namespace Cert.ReferenceIdeal.Value

open Cert.ReferenceIdeal Cert.ReferenceIdeal.Gen Idealize.ShloMosaic Idealize.ShloMosaic.Routing

/-- The sign of a positive small natural is the sign of 64. -/
theorem sign_word (n : ℕ) (hn : n < 8192) (h : n ≠ 0) :
    (if BitVec.ofNat 32 n = 0 then (0 : BitVec 32) else if (BitVec.ofNat 32 n).msb = true then -1 else 1) = 1 := by
  rw [if_neg (ofNat32_ne_zero (by omega) (by omega)), msb_ofNat32 (by omega)]
  rfl

/-- The block of a row. -/
theorem rowBlk_at (i : Fin 1024) : rowBlk (ix1 i) = BitVec.ofNat 32 (i.val / 64) := by
  have hi := i.isLt
  unfold rowBlk
  pointwise
  rw [show id (constantI S_ 32 64#32) ix0 = BitVec.ofNat 32 64 from rfl,
    divsi_word _ (by omega : i.val < 2 ^ 31) (by decide : 0 < 64) (by decide), remsi_word _ (by omega : i.val < 2 ^ 31) (by decide : 0 < 64) (by decide)]
  refine KernelIdeal.Flat.keep_quotient _ _ _ _ i.val (fun h => ?_) (by omega)
  exact (sign_word i.val (by omega) h).trans (by decide)

/-- The block of a key. -/
theorem keyBlk_at (j : Fin 8192) : keyBlk (ix1 j) = BitVec.ofNat 32 (j.val / 64) := by
  have hj := j.isLt
  unfold keyBlk
  pointwise
  rw [show id (constantI S_ 32 64#32) ix0 = BitVec.ofNat 32 64 from rfl,
    divsi_word _ (by omega : j.val < 2 ^ 31) (by decide : 0 < 64) (by decide), remsi_word _ (by omega : j.val < 2 ^ 31) (by decide : 0 < 64) (by decide)]
  refine KernelIdeal.Flat.keep_quotient _ _ _ _ j.val (fun h => ?_) (by omega)
  exact (sign_word j.val (by omega) h).trans (by decide)

/-- The reference's mask: row `i` sees key `j` where the key's block of 64 is not after the row's. -/
theorem seen_at (i : Fin 1024) (j : Fin 8192) : seen (ix2 i j) = BitVec.ofBool (decide (j.val / 64 ≤ i.val / 64)) := by
  have hi := i.isLt
  have hj := j.isLt
  unfold seen
  pointwise
  rw [rowBlk_at, keyBlk_at, WordCmp.cmpi_sle_ofNat (by omega) (by omega)]

/-- Every row sees a key: the first. -/
theorem keeps_at (i : Fin 1024) : keeps (ix1 i) = 1#1 := by
  unfold keeps
  pointwise
  rw [← Finset.insert_erase (Finset.mem_univ (0 : Fin 8192)), Finset.fold_insert (Finset.notMem_erase _ _), seen_at]
  have key : ∀ x : BitVec 1, IntOp.ori 1#1 x = 1#1 := by decide
  rw [decide_eq_true (show (0 : Fin 8192).val / 64 ≤ i.val / 64 from Nat.zero_le _)]
  exact key _

end Cert.ReferenceIdeal.Value
-- ==== Proof.Softmax.lean ====
module

public import Idealize.ShloMosaic.PureOps.Ideal
public import Idealize.ShloMosaic.Lib.Pointwise.Sums

@[expose] public section

/-!
# A softmax row over the extended reals

A weighted average with the weights `exp s`, once divided after summing and without a shift, and once shifted by the row's
maximum and divided before summing.  The scores are real; what is averaged may be infinite.
-/

noncomputable section

namespace Cert.Softmax

open Idealize.ShloMosaic

/-- A sum of reals is the sum of them as extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes inside a sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A maximum from `⊥` over entries that are real or `⊥`, one of them real, is real. -/
theorem fold_max_real {ι : Type} [Fintype ι] (f : ι → EReal) (hf : ∀ i, f i ≠ ⊤) (i₀ : ι) (h₀ : f i₀ ≠ ⊥) :
    ∃ r : ℝ, Finset.univ.fold max ⊥ f = (r : EReal) := by
  have ht : Finset.univ.fold max ⊥ f ≠ ⊤ := by
    refine ne_of_lt ?_
    rw [Finset.fold_max_lt]
    exact ⟨bot_lt_top, fun i _ => lt_of_le_of_ne le_top (hf i)⟩
  have hb : Finset.univ.fold max ⊥ f ≠ ⊥ := by
    refine ne_of_gt (lt_of_lt_of_le (bot_lt_iff_ne_bot.mpr h₀) ?_)
    rw [Finset.le_fold_max]
    exact Or.inr ⟨i₀, Finset.mem_univ _, le_rfl⟩
  exact ⟨_, (EReal.coe_toReal ht hb).symm⟩

/-- A sum over `N` positions whose terms vanish from `n` on is the sum over the first `n`. -/
theorem sum_first {N : ℕ} (n : ℕ) (hn : n ≤ N) (f : Fin N → EReal) (hf : ∀ j : Fin N, n ≤ j.val → f j = 0) :
    ∑ j, f j = ∑ j : Fin n, f ⟨j.val, lt_of_lt_of_le j.isLt hn⟩ := by
  rw [Fin.sum_univ_two_halves n (N - n) (by omega) f]
  refine (congrArg (_ + ·) (Finset.sum_eq_zero fun j _ => hf _ (Nat.le_add_right _ _))).trans (add_zero _)

/-- One row of attention: the shifted and divided weights of the entries that `P` admits give the average that the bare
    exponentials give when the division comes last. -/
theorem row {ι : Type} [Fintype ι] (P : ι → Prop) [DecidablePred P] (s : ι → ℝ) (S v : ι → EReal) (hS : ∀ j, P j → S j = (s j : EReal))
    (i₀ : ι) (h₀ : P i₀) (M : EReal) (hM : M = Finset.univ.fold max ⊥ fun j => if P j then S j else ⊥) :
    ∑ j, v j * Ideal.div (Ideal.exp ((if P j then S j else ⊥) - M)) (∑ j', Ideal.exp ((if P j' then S j' else ⊥) - M))
      = Ideal.div (∑ j, (if P j then Ideal.exp (S j) else 0) * v j) (∑ j, if P j then Ideal.exp (S j) else 0) := by
  obtain ⟨m, hm⟩ := fold_max_real (fun j => if P j then S j else ⊥)
    (fun j => by by_cases h : P j
                 · simp only [if_pos h, hS j h]; exact EReal.coe_ne_top _
                 · simp only [if_neg h]; exact bot_ne_top)
    i₀ (by simp only [if_pos h₀, hS i₀ h₀]; exact EReal.coe_ne_bot _)
  rw [← hM] at hm
  subst hm
  clear hM
  -- the weights as reals
  let w : ι → ℝ := fun j => if P j then Real.exp (s j) else 0
  have hw : ∀ j, (if P j then Ideal.exp (S j) else 0) = (w j : EReal) := fun j => by
    by_cases h : P j
    · simp only [w, if_pos h, hS j h, Ideal.exp_coe]
    · simp only [w, if_neg h, EReal.coe_zero]
  have hx : ∀ j, Ideal.exp ((if P j then S j else ⊥) - (m : EReal)) = ((w j * Real.exp (-m) : ℝ) : EReal) := fun j => by
    by_cases h : P j
    · simp only [w, if_pos h, hS j h, ← EReal.coe_sub, Ideal.exp_coe, ← Real.exp_add]
      rw [sub_eq_add_neg]
    · simp only [w, if_neg h, EReal.bot_sub, Ideal.exp_bot, zero_mul, EReal.coe_zero]
  have hpos : 0 < ∑ j, w j := by
    refine Finset.sum_pos' (fun j _ => ?_) ⟨i₀, Finset.mem_univ _, ?_⟩
    · by_cases h : P j
      · simp only [w, if_pos h]; exact (Real.exp_pos _).le
      · simp only [w, if_neg h]; exact le_rfl
    · simp only [w, if_pos h₀]; exact Real.exp_pos _
  have hc : Real.exp (-m) ≠ 0 := (Real.exp_pos _).ne'
  simp only [hx, hw, sum_coe, ← Finset.sum_mul]
  rw [Ideal.div_coe hpos.ne', sum_mul_coe _ _ (by positivity)]
  refine Finset.sum_congr rfl fun j _ => ?_
  rw [Ideal.div_coe (mul_ne_zero hpos.ne' hc), mul_comm (w j : EReal) (v j), mul_assoc, ← EReal.coe_mul, ← EReal.coe_mul]
  congr 2
  field_simp

/-- Scaling the queries before the product with the keys is scaling the scores, where all is real. -/
theorem scaled_score {ι : Type} [Fintype ι] (q k : ι → ℝ) (c : ℝ) :
    ∑ d, ((q d : EReal) * (c : EReal)) * (k d : EReal) = (∑ d, (q d : EReal) * (k d : EReal)) * (c : EReal) := by
  simp only [← EReal.coe_mul, sum_coe, Finset.sum_mul]
  congr 1
  exact Finset.sum_congr rfl fun d _ => by ring

end Cert.Softmax
-- ==== Proof.RefRead.lean ====
module

public import proofs.«01_k».proof.Proof.Words
public import proofs.«01_k».proof.Proof.Softmax

@[expose] public section

set_option maxRecDepth 16384

/-!
# The reference at an index

Each step of the reference read at an index, over the extended reals.
-/

noncomputable section

namespace Cert.ReferenceIdeal.Value

open Cert.ReferenceIdeal Cert.ReferenceIdeal.Gen Idealize.ShloMosaic

/-- The query of row `i` at column `y`. -/
def query (x : FVec Ideal S1x1024x1024 .f32) (wq : FVec Ideal S1024x1024 .f32) (i y : Fin 1024) : EReal :=
  ∑ d : Fin 1024, x (ix3 0 i d) * wq (ix2 d y)

/-- Column `d` of head `h`. -/
def col (h : Fin 8) (d : Fin 128) : Fin 1024 := ⟨h.val * 128 + d.val, by have := h.isLt; have := d.isLt; omega⟩

/-- Whether row `i` sees key `j`. -/
def Sees (i : Fin 1024) (j : ℕ) : Prop := j / 64 ≤ i.val / 64
instance (i : Fin 1024) (j : ℕ) : Decidable (Sees i j) := inferInstanceAs (Decidable (_ ≤ _))

/-- The scale as a number. -/
def scale : EReal := Ideal.ofBits .f32 0x3DB504F3#32

/-- The score of row `i` and key `j` in head `h`, scaled. -/
def score (x : FVec Ideal S1x1024x1024 .f32) (wq : FVec Ideal S1024x1024 .f32) (k : FVec Ideal S1x8192x8x128 .f32)
    (h : Fin 8) (i : Fin 1024) (j : Fin 8192) : EReal :=
  (∑ d : Fin 128, query x wq i (col h d) * k (ix4 0 j h d)) * scale

/-- A select on a decided proposition is an `if`. -/
theorem select_ofBool {α : Type} (p : Prop) [Decidable p] (a b : α) : Scalar.select (BitVec.ofBool (decide p)) a b = if p then a else b := by
  by_cases h : p
  · simp only [h, decide_true, if_true]; rfl
  · simp only [h, decide_false, if_false]; rfl

/-- The word of the mask's constant is `⊥`. -/
theorem ninf : Ideal.ofBits .f32 0xFF800000#32 = ⊥ := by
  simp [Ideal.ofBits, Ideal.ieee]

/-- The scores: the scaled products where the key is seen, `⊥` elsewhere. -/
theorem scores_at (x : FVec Ideal S1x1024x1024 .f32) (wq : FVec Ideal S1024x1024 .f32) (k : FVec Ideal S1x8192x8x128 .f32)
    (h : Fin 8) (i : Fin 1024) (j : Fin 8192) :
    scores x wq k (ix4 0 h i j) = if Sees i j.val then score x wq k h i j else ⊥ := by
  unfold scores
  pointwise
  rw [seen_at]
  exact (select_ofBool _ _ _).trans (congrArg (fun z : EReal => if Sees i j.val then score x wq k h i j else z) ninf)

/-- The maximum of a row. -/
theorem rowMax_at (s : FVec Ideal S1x8x1024x8192 .f32) (h : Fin 8) (i : Fin 1024) :
    rowMax s (ix3 0 h i) = Finset.univ.fold max ⊥ fun j => s (ix4 0 h i j) := by
  unfold rowMax
  pointwise
  rw [ninf]

/-- The sum of a row. -/
theorem rowSum_at (s : FVec Ideal S1x8x1024x8192 .f32) (h : Fin 8) (i : Fin 1024) : rowSum s (ix3 0 h i) = ∑ j, s (ix4 0 h i j) := by
  unfold rowSum Host.reduceAdd
  rw [Ideal.hostReduceAdd_def, Ideal.hostReduceAdd_r4_a3]
  exact (congrArg (· + _) Ideal.ofBits_zero_f32).trans (zero_add _)

/-- The exponential of an entry less its row's maximum. -/
theorem exps_at (s : FVec Ideal S1x8x1024x8192 .f32) (h : Fin 8) (i : Fin 1024) (j : Fin 8192) :
    exps s (ix4 0 h i j) = Ideal.exp (s (ix4 0 h i j) - Finset.univ.fold max ⊥ fun j' => s (ix4 0 h i j')) := by
  unfold exps
  pointwise
  rw [rowMax_at]

/-- Every row sees a key, read over one column -/
theorem keepsCol_at (h : Fin 8) (i : Fin 1024) : keepsCol (ix4 0 h i 0) = 1#1 := by
  unfold keepsCol
  pointwise
  exact keeps_at i

/-- and over all keys. -/
theorem keepsAll_at (h : Fin 8) (i : Fin 1024) (j : Fin 8192) : keepsAll (ix4 0 h i j) = 1#1 := by
  unfold keepsAll
  pointwise
  exact keeps_at i

/-- A row is divided by its sum. -/
theorem den_at (s : FVec Ideal S1x8x1024x8192 .f32) (h : Fin 8) (i : Fin 1024) : den s (ix4 0 h i 0) = ∑ j, s (ix4 0 h i j) := by
  unfold den
  pointwise
  rw [keepsCol_at, rowSum_at]
  exact if_pos rfl

/-- Division by one number per row. -/
theorem div_col_at (e : FVec Ideal S1x8x1024x8192 .f32) (q : FVec Ideal S1x8x1024x1 .f32) (h : Fin 8) (i : Fin 1024) (j : Fin 8192) :
    Host.divf e (broadcastInDim S1x8x1024x8192 ![0, 1, 2, 3] bcast_S1x8x1024x1_S1x8x1024x8192_0_1_2_3 q) (ix4 0 h i j)
      = Ideal.div (e (ix4 0 h i j)) (q (ix4 0 h i 0)) := by
  pointwise

/-- An entry divided. -/
theorem quot_at (s : FVec Ideal S1x8x1024x8192 .f32) (h : Fin 8) (i : Fin 1024) (j : Fin 8192) :
    quot s (ix4 0 h i j) = Ideal.div (s (ix4 0 h i j)) (∑ j', s (ix4 0 h i j')) :=
  (div_col_at s (den s) h i j).trans (congrArg (Ideal.div (s (ix4 0 h i j))) (den_at s h i))

/-- The weight: the entry over the sum of its row. -/
theorem weights_at (s : FVec Ideal S1x8x1024x8192 .f32) (h : Fin 8) (i : Fin 1024) (j : Fin 8192) :
    weights s (ix4 0 h i j) = Ideal.div (s (ix4 0 h i j)) (∑ j', s (ix4 0 h i j')) := by
  unfold weights
  pointwise
  rw [keepsAll_at, quot_at]
  exact if_pos rfl

/-- The result: the averages of the values, head by head, times `Wo`. -/
theorem project_at (w : FVec Ideal S1x8x1024x8192 .f32) (v : FVec Ideal S1x8192x8x128 .f32) (wo : FVec Ideal S1024x1024 .f32) (i e : Fin 1024) :
    project w v wo (ix3 0 i e) = ∑ y : Fin 1024, (∑ j : Fin 8192, v (ix4 0 j ⟨y.val / 128, by omega⟩ ⟨y.val % 128, Nat.mod_lt _ (by decide)⟩)
      * w (ix4 0 ⟨y.val / 128, by omega⟩ i j)) * wo (ix2 y e) := by
  unfold project
  pointwise

end Cert.ReferenceIdeal.Value
-- ==== Proof.KernelRead.lean ====
module

public import proofs.«01_k».proof.Proof.Contents
public import proofs.«01_k».proof.Proof.RefRead
public import Idealize.ShloMosaic.Lib.MatmulPlain

@[expose] public section

set_option maxRecDepth 16384

/-!
# The kernel at an index

The context and the output of the kernel read at an index, over the extended reals.
-/

noncomputable section

namespace Cert.KernelIdeal.Value

open Idealize.ShloMosaic Idealize.ShloMosaic.TcCoe
open Cert.KernelIdeal.Gen Cert.KernelIdeal.Flat Cert.KernelIdeal.Proto
open Cert.ReferenceIdeal.Value (Sees col scale select_ofBool query)

variable (A : Args Ideal)

/-! ## Loads -/

/-- Row `r` of the rows of block `b`. -/
def rowAt (b : Fin 4) (r : Fin 256) : Fin 1024 := ⟨256 * b.val + r.val, by have := b.isLt; have := r.isLt; omega⟩
/-- Key `j` of those block `b` looks at. -/
def keyAt (b : Fin 4) (j : Fin (nk b)) : Fin 1024 := ⟨j.val, by have := b.isLt; have := j.isLt; have : nk b = 256 * (b.val + 1) := rfl; omega⟩

/-- The loaded rows of the input. -/
theorem load_x (b : Fin 4) (x : Vec Ideal S1x1024x1024 .f32) (r : Fin 256) (d : Fin 1024) :
    mX.view.readAt (Elt Ideal) (rX b).toLoadRect x (ix3 0 r d) = x (ix3 0 (rowAt b r) d) := by
  refine congrArg x (funext fun a => Fin.ext ?_)
  refine (ValueKit.view_emb_slice_whole_unit_val cc0_stg0_0 ![0, 256 * b.val, 0] S1x256x1024.size (inbX b) _ a).trans ?_
  match a with
  | ⟨0, _⟩ => rfl
  | ⟨1, _⟩ => rfl
  | ⟨2, _⟩ => exact Nat.zero_add _

/-- The loaded rows of the context. -/
theorem load_ctx (b : Fin 4) (x : Vec Ideal S1024x1024 .bf16) (r : Fin 256) (d : Fin 1024) :
    mCtx.view.readAt (Elt Ideal) (rB b).toLoadRect x (ix2 r d) = x (ix2 (rowAt b r) d) := by
  refine congrArg x (funext fun a => Fin.ext ?_)
  refine (ValueKit.view_emb_slice_whole_unit_val cc0_scratch0 ![256 * b.val, 0] S256x1024.size (inbB b) _ a).trans ?_
  match a with
  | ⟨0, _⟩ => rfl
  | ⟨1, _⟩ => exact Nat.zero_add _

/-- The loaded keys of a head, -/
theorem load_k (b : Fin 4) (h : Fin 8) (x : Vec Ideal S1x1024x8x128 .f32) (j : Fin (nk b)) (d : Fin 128) :
    mK.view.readAt (Elt Ideal) (rK b h).toLoadRect x (ix4 0 j 0 d) = x (ix4 0 (keyAt b j) h d) := by
  refine congrArg x (funext fun a => Fin.ext ?_)
  refine (ValueKit.view_emb_slice_whole_unit_val cc0_stg2_0 ![0, 0, h.val, 0] (SK4 b).size (inbK b h) _ a).trans ?_
  match a with
  | ⟨0, _⟩ => rfl
  | ⟨1, _⟩ => exact Nat.zero_add _
  | ⟨2, _⟩ => rfl
  | ⟨3, _⟩ => exact Nat.zero_add _

/-- and its values. -/
theorem load_v (b : Fin 4) (h : Fin 8) (x : Vec Ideal S1x1024x8x128 .f32) (j : Fin (nk b)) (d : Fin 128) :
    mV.view.readAt (Elt Ideal) (rK b h).toLoadRect x (ix4 0 j 0 d) = x (ix4 0 (keyAt b j) h d) := by
  refine congrArg x (funext fun a => Fin.ext ?_)
  refine (ValueKit.view_emb_slice_whole_unit_val cc0_stg3_0 ![0, 0, h.val, 0] (SK4 b).size (inbK b h) _ a).trans ?_
  match a with
  | ⟨0, _⟩ => rfl
  | ⟨1, _⟩ => exact Nat.zero_add _
  | ⟨2, _⟩ => rfl
  | ⟨3, _⟩ => exact Nat.zero_add _

/-! ## One head -/

/-- The scaled queries. -/
theorem qv_at (b : Fin 4) (r : Fin 256) (e : Fin 1024) : qv A b (ix2 r e) = query A.x A.wq (rowAt b r) e * scale := by
  unfold qv wq16
  pointwise [k0_pay1, k0_pay101]
  refine congrArg (· * scale) (Finset.sum_congr rfl fun d _ => ?_)
  exact congrArg (· * _) (load_x b A.x r d)

/-- The keys of a head as a matrix. -/
theorem cast_at (b : Fin 4) (k : Vec Ideal (SK4 b) .f32) (j : Fin (nk b)) (d : Fin 128) :
    shapeCast (SK b) k (castsK b) (ix2 j d) = k (ix4 0 j 0 d) := by
  refine shapeCast_apply k _ _ _ ?_
  refine (Shape.rowMajor_val_four _).trans (Eq.trans ?_ (Shape.rowMajor_val_two _).symm)
  show ((0 * nk b + j.val) * 1 + 0) * 128 + d.val = j.val * 128 + d.val
  omega

/-- The weights of one head before division: the exponential of the score where the key is seen, zero elsewhere. -/
theorem wts_at (b : Fin 4) (h : Fin 8) (q : FVec Ideal S256x1024 .bf16) (k : Vec Ideal (SK4 b) .f32) (r : Fin 256) (j : Fin (nk b)) :
    wts b h q k (ix2 r j) = if Sees (rowAt b r) j.val then Ideal.exp (∑ d : Fin 128, q (ix2 r (col h d)) * k (ix4 0 j 0 d)) else 0 := by
  have e : matmul (DotDims.transposedRhs 256 128 (nk b)) none (extractStridedSlice S256x128 ![0, 128 * h.val] q (slicesQ h))
      (truncf .bf16 (shapeCast (SK b) k (castsK b) : FVec Ideal (SK b) .f32) Facts₀.bitsLt_bf16_f32 : FVec Ideal (SK b) .bf16)
      (constant (SS b) .f32 0x00000000#32 : FVec Ideal (SS b) .f32) (ix2 r j) = ∑ d : Fin 128, q (ix2 r (col h d)) * k (ix4 0 j 0 d) := by
    refine (Ideal.matmul_transposedRhs_apply (M := 256) (K := 128) (N := nk b) none _ _ _ r j).trans ?_
    refine (congrArg (· + _) Ideal.ofBits_zero_f32).trans ((zero_add _).trans (Finset.sum_congr rfl fun d _ => ?_))
    refine congrArg₂ (fun a b : EReal => a * b) (extractStridedSlice_apply _ q _ _ _ fun a => ?_) (cast_at b k j d)
    match a with
    | ⟨0, _⟩ => exact (Nat.zero_add _).symm
    | ⟨1, _⟩ => show h.val * 128 + d.val = 128 * h.val + d.val; omega
  show Scalar.select (mask b (ix2 r j)) (Ideal.exp _) (Ideal.ofBits .f32 0x00000000#32) = _
  rw [mask_at, Ideal.ofBits_zero_f32]
  exact (select_ofBool _ _ _).trans (congrArg (fun z => if Sees (rowAt b r) j.val then Ideal.exp z else 0) e)

/-- One head: the weighted sum of the values over the sum of the weights. -/
theorem headv_at (b : Fin 4) (h : Fin 8) (q : FVec Ideal S256x1024 .bf16) (k v : Vec Ideal (SK4 b) .f32) (r : Fin 256) (e : Fin 128) :
    headv b h q k v (ix2 r e) = Ideal.div (∑ j : Fin (nk b), wts b h q k (ix2 r j) * v (ix4 0 j 0 e)) (∑ j : Fin (nk b), wts b h q k (ix2 r j)) := by
  pointwise [headv]
  refine congrArg (fun z => Ideal.div z _) ?_
  refine (Ideal.matmul_plain_apply (M := 256) (K := nk b) (N := 128) none _ _ _ r e).trans ?_
  refine (congrArg (· + _) Ideal.ofBits_zero_f32).trans ((zero_add _).trans (Finset.sum_congr rfl fun j _ => ?_))
  exact congrArg (fun z : EReal => _ * z) (cast_at b v j e)

/-! ## The context -/

/-- The weight of row `i` and key `j` in head `h` before division. -/
def weight (i : Fin 1024) (h : Fin 8) (j : Fin 1024) : EReal :=
  if Sees i j.val then Ideal.exp (∑ d : Fin 128, (query A.x A.wq i (col h d) * scale) * A.k (ix4 0 j h d)) else 0

/-- A row of block `b` sees no key beyond those block `b` looks at. -/
theorem weight_zero (b : Fin 4) (r : Fin 256) (h : Fin 8) (j : Fin 1024) (hj : nk b ≤ j.val) : weight A (rowAt b r) h j = 0 := by
  refine if_neg fun hs => ?_
  have hs' : j.val / 64 ≤ (256 * b.val + r.val) / 64 := hs
  have := r.isLt
  have hn : 256 * (b.val + 1) ≤ j.val := hj
  omega

/-- The weights of a tile. -/
theorem wts_tile (b : Fin 4) (h : Fin 8) (r : Fin 256) (j : Fin (nk b)) :
    wts b h (qv A b) (mK.view.readAt (Elt Ideal) (rK b h).toLoadRect A.k) (ix2 r j) = weight A (rowAt b r) h (keyAt b j) := by
  refine (wts_at b h _ _ r j).trans ?_
  refine congrArg (fun z => if Sees (rowAt b r) j.val then Ideal.exp z else 0) (Finset.sum_congr rfl fun d _ => ?_)
  exact congrArg₂ (fun a b : EReal => a * b) (qv_at A b r (col h d)) (load_k b h A.k j d)

/-- A tile of the context: the weighted sum of the values over the sum of the weights, over all 1024 keys. -/
theorem tile_at (b : Fin 4) (h : Fin 8) (r : Fin 256) (e : Fin 128) :
    tile A b h (ix2 r e) = Ideal.div (∑ j : Fin 1024, weight A (rowAt b r) h j * A.v (ix4 0 j h e)) (∑ j : Fin 1024, weight A (rowAt b r) h j) := by
  have hn : nk b ≤ 1024 := by have := b.isLt; show 256 * (b.val + 1) ≤ 1024; omega
  rw [Softmax.sum_first (nk b) hn _ fun j hj => weight_zero A b r h j hj,
    Softmax.sum_first (nk b) hn _ fun j hj => by rw [weight_zero A b r h j hj, zero_mul]]
  refine (headv_at b h _ _ _ r e).trans ?_
  refine congrArg₂ Ideal.div (Finset.sum_congr rfl fun j _ => ?_) (Finset.sum_congr rfl fun j _ => wts_tile A b h r j)
  exact congrArg₂ (fun a b : EReal => a * b) (wts_tile A b h r j) (load_v b h A.v j e)

/-- The context as numbers. -/
def context (i y : Fin 1024) : EReal := ctx A (ix2 i y)

/-- The context at row `i` and column `y`. -/
theorem context_at (i y : Fin 1024) : context A i y =
    Ideal.div (∑ j : Fin 1024, weight A i ⟨y.val / 128, by omega⟩ j
        * A.v (ix4 0 j ⟨y.val / 128, by omega⟩ ⟨y.val % 128, Nat.mod_lt _ (by decide)⟩))
      (∑ j : Fin 1024, weight A i ⟨y.val / 128, by omega⟩ j) := by
  have e : rowAt (bOf (ix2 i y)) ⟨i.val % 256, Nat.mod_lt _ (by decide)⟩ = i := Fin.ext (by
    show 256 * (i.val / 256) + i.val % 256 = i.val
    omega)
  refine (tile_at A (bOf (ix2 i y)) ⟨y.val / 128, by omega⟩ ⟨i.val % 256, Nat.mod_lt _ (by decide)⟩ ⟨y.val % 128, Nat.mod_lt _ (by decide)⟩).trans ?_
  rw [e]

/-! ## The output -/

/-- The output at the source. -/
theorem outSrc_at (i e : Fin 1024) : outSrc A (ix3 0 i e) = ∑ y : Fin 1024, context A i y * A.wo (ix2 y e) := by
  pointwise [outSrc, k0_pay106]
  rfl

/-- One block of the output elsewhere. -/
theorem outBlk_at (b : Fin 4) (r : Fin 256) (e : Fin 1024) :
    outBlk A b (ix3 0 r e) = ∑ y : Fin 1024, context A (rowAt b r) y * A.wo (ix2 y e) := by
  pointwise [outBlk, k0_pay102]
  refine Finset.sum_congr rfl fun y _ => ?_
  exact congrArg (fun z : EReal => z * A.wo (ix2 y e)) (load_ctx b (ctx A) r y)

/-- The output elsewhere. -/
theorem outRows_at (i e : Fin 1024) : outRows A (ix3 0 i e) = ∑ y : Fin 1024, context A i y * A.wo (ix2 y e) := by
  refine (outBlk_at A _ _ e).trans ?_
  refine congrArg (fun i => ∑ y : Fin 1024, context A i y * A.wo (ix2 y e)) (Fin.ext ?_)
  show 256 * (i.val / 256) + i.val % 256 = i.val
  omega

end Cert.KernelIdeal.Value
-- ==== Proof.Equal.lean ====
module

public import proofs.«01_k».proof.Proof.KernelRead

@[expose] public section

set_option maxRecDepth 16384

/-!
# The kernel computes the reference

Where the input, `Wq` and the keys that can be seen are real, the kernel's output is the reference's, index by index.
-/

noncomputable section

namespace Cert.KernelIdeal.Value

open Idealize.ShloMosaic Idealize.ShloMosaic.TcCoe
open Cert.KernelIdeal.Gen Cert.KernelIdeal.Flat Cert.KernelIdeal.Proto
open Cert.ReferenceIdeal.Value

/-- The scale is real. -/
theorem scale_real : ∃ c : ℝ, scale = (c : EReal) := by
  unfold scale
  simp only [Ideal.ofBits, Ideal.ieee]
  rw [if_neg (by decide), if_neg (by decide)]
  exact ⟨_, rfl⟩

/-- Key `j` of the first 1024 among all 8192. -/
def wide (j : Fin 1024) : Fin 8192 := ⟨j.val, lt_trans j.isLt (by decide)⟩

/-- A row sees none of the keys from 1024 on. -/
theorem not_sees (i : Fin 1024) (j : Fin 8192) (hj : 1024 ≤ j.val) : ¬ Sees i j.val := fun hs => by
  have hs' : j.val / 64 ≤ i.val / 64 := hs
  have := i.isLt
  omega

/-- What the two programs share: the kernel's keys and values are the first 1024 of the reference's, and what makes up the scores
    is real. -/
structure Shared (A : Args Ideal) (k v : FVec Ideal Cert.ReferenceIdeal.S1x8192x8x128 .f32) : Prop where
  keys : ∀ j h d, A.k (ix4 0 j h d) = k (ix4 0 (wide j) h d)
  vals : ∀ j h d, A.v (ix4 0 j h d) = v (ix4 0 (wide j) h d)
  x_real : ∀ i d, ∃ r : ℝ, A.x (ix3 0 i d) = (r : EReal)
  wq_real : ∀ d y, ∃ r : ℝ, A.wq (ix2 d y) = (r : EReal)
  k_real : ∀ j h d, ∃ r : ℝ, A.k (ix4 0 j h d) = (r : EReal)

variable {A : Args Ideal} {k v : FVec Ideal Cert.ReferenceIdeal.S1x8192x8x128 .f32} (H : Shared A k v)
include H

/-- A query is real. -/
theorem query_real (i y : Fin 1024) : ∃ r : ℝ, query A.x A.wq i y = (r : EReal) := by
  choose x hx using H.x_real
  choose w hw using H.wq_real
  refine ⟨∑ d, x i d * w d y, ?_⟩
  unfold query
  simp only [hx, hw, ← EReal.coe_mul, Softmax.sum_coe]

/-- The kernel's scaled queries give the reference's scaled scores. -/
theorem score_eq (h : Fin 8) (i j : Fin 1024) :
    ∑ d : Fin 128, (query A.x A.wq i (col h d) * scale) * A.k (ix4 0 j h d) = score A.x A.wq k h i (wide j) := by
  obtain ⟨c, hc⟩ := scale_real
  choose q hq using query_real H i
  choose κ hκ using H.k_real j h
  unfold score
  simp only [← H.keys, hq, hκ, hc]
  exact Softmax.scaled_score _ _ c

/-- The scores of the first 1024 keys are real. -/
theorem score_real (h : Fin 8) (i : Fin 1024) (j : Fin 8192) (hj : j.val < 1024) : ∃ r : ℝ, score A.x A.wq k h i j = (r : EReal) := by
  obtain ⟨c, hc⟩ := scale_real
  choose q hq using query_real H i
  choose κ hκ using H.k_real ⟨j.val, hj⟩ h
  refine ⟨(∑ d, q (col h d) * κ d) * c, ?_⟩
  have e : ∀ d, k (ix4 0 j h d) = (κ d : EReal) := fun d => (H.keys ⟨j.val, hj⟩ h d).symm.trans (hκ d)
  unfold score
  simp only [e, hq, hc, ← EReal.coe_mul, Softmax.sum_coe]

/-- The average of the values with the reference's weights is the kernel's context. -/
theorem average_eq (h : Fin 8) (i : Fin 1024) (d : Fin 128) :
    ∑ j : Fin 8192, v (ix4 0 j h d) * weights (exps (scores A.x A.wq k)) (ix4 0 h i j)
      = Ideal.div (∑ j : Fin 1024, weight A i h j * A.v (ix4 0 j h d)) (∑ j : Fin 1024, weight A i h j) := by
  have hs : ∀ j : Fin 8192, ∃ r : ℝ, Sees i j.val → score A.x A.wq k h i j = (r : EReal) := fun j => by
    by_cases hj : j.val < 1024
    · obtain ⟨r, hr⟩ := score_real H h i j hj
      exact ⟨r, fun _ => hr⟩
    · exact ⟨0, fun hs => absurd hs (not_sees i j (not_lt.mp hj))⟩
  choose s hs using hs
  refine Eq.trans (Finset.sum_congr rfl fun j _ => ?_) ((Softmax.row (fun j : Fin 8192 => Sees i j.val) s (fun j => score A.x A.wq k h i j)
    (fun j => v (ix4 0 j h d)) hs ⟨0, by decide⟩ (by show 0 / 64 ≤ i.val / 64; omega) _ rfl).trans ?_)
  · refine congrArg (fun z : EReal => v (ix4 0 j h d) * z) ((weights_at _ h i j).trans ?_)
    simp only [exps_at, scores_at]
  · rw [Softmax.sum_first 1024 (by decide) _ fun j hj => by rw [if_neg (not_sees i j hj), zero_mul],
      Softmax.sum_first 1024 (by decide) _ fun j hj => if_neg (not_sees i j hj)]
    refine congrArg₂ Ideal.div (Finset.sum_congr rfl fun j _ => congrArg₂ (fun a b : EReal => a * b) ?_ (H.vals j h d).symm)
      (Finset.sum_congr rfl fun j _ => ?_)
    all_goals exact congrArg (fun z => if Sees i j.val then Ideal.exp z else 0) (score_eq H h i j).symm

/-- The reference's result is the kernel's output. -/
theorem result_eq (i e : Fin 1024) : project (weights (exps (scores A.x A.wq k))) v A.wo (ix3 0 i e)
    = ∑ y : Fin 1024, context A i y * A.wo (ix2 y e) := by
  refine (project_at _ v A.wo i e).trans (Finset.sum_congr rfl fun y _ => congrArg (fun z : EReal => z * A.wo (ix2 y e)) ?_)
  exact (average_eq H _ i _).trans (context_at A i y).symm

end Cert.KernelIdeal.Value
-- ==== Proof.Result.lean ====
module

public import proofs.«01_k».proof.Proof.Frames
public import proofs.«01_k».proof.Proof.Equal

@[expose] public section

set_option maxRecDepth 16384

/-!
# The result

What the eight devices leave in their result arrays, and that it is the reference's result.
-/

noncomputable section

namespace Cert.Proof

open Idealize.ShloMosaic Idealize.ShloMosaic.TcCoe Idealize.SL.Sem
open Cert.KernelIdeal Cert.KernelIdeal.Gen Cert.KernelIdeal.Proto Cert.KernelIdeal.Value
open Cert.ReferenceIdeal.Value (project weights exps scores res_steps)

section Final

variable {F : FTy → Type} [FloatOps F] (m : (ℓ : Loc nD τ sig) → Buf (Elt F) ℓ) (c : Dev nD)

/-! ## Windows are whole arrays -/

/-- The block a device loads of the input is its whole array. -/
theorem block_0 : iblk m c 0 t0_0 = m ((c : Thread nD τ).loc main_arg0) :=
  funext fun i => congrArg (m ((c : Thread nD τ).loc main_arg0)) (funext fun a => Fin.ext
    (Pipeline.Window.rect_emb_val_of_index_zero (cfg0.win 0) t0_0 a rfl i))
/-- The block a device loads of `Wq` is its whole array. -/
theorem block_1 : iblk m c 1 t0_0 = m ((c : Thread nD τ).loc main_arg1) :=
  funext fun i => congrArg (m ((c : Thread nD τ).loc main_arg1)) (funext fun a => Fin.ext
    (Pipeline.Window.rect_emb_val_of_index_zero (cfg0.win 1) t0_0 a rfl i))
/-- The block a device loads of the keys is its whole array. -/
theorem block_2 : iblk m c 2 t0_0 = m ((c : Thread nD τ).loc main_arg2) :=
  funext fun i => congrArg (m ((c : Thread nD τ).loc main_arg2)) (funext fun a => Fin.ext
    (Pipeline.Window.rect_emb_val_of_index_zero (cfg0.win 2) t0_0 a rfl i))
/-- The block a device loads of the values is its whole array. -/
theorem block_3 : iblk m c 3 t0_0 = m ((c : Thread nD τ).loc main_arg3) :=
  funext fun i => congrArg (m ((c : Thread nD τ).loc main_arg3)) (funext fun a => Fin.ext
    (Pipeline.Window.rect_emb_val_of_index_zero (cfg0.win 3) t0_0 a rfl i))
/-- The block a device loads of `Wo` is its whole array. -/
theorem block_4 : iblk m c 4 t0_0 = m ((c : Thread nD τ).loc main_arg4) :=
  funext fun i => congrArg (m ((c : Thread nD τ).loc main_arg4)) (funext fun a => Fin.ext
    (Pipeline.Window.rect_emb_val_of_index_zero (cfg0.win 4) t0_0 a rfl i))

/-- The result array of a device ends holding the device's output. -/
theorem final_5 : finalA m c (5 : Fin 6) = outAt m c := by
  refine (dats m 0 c).arrAt_eq_of_after_last (5 : Fin 6) t0_0 (by decide +kernel) _ fun j => ?_
  rfl

end Final

/-! ## The precondition -/

/-- A number whose absolute value is below the constant `+∞` is real. -/
theorem real_of_below (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- The side conditions of the precondition on the kernel's arguments, -/
theorem pre_kernel : Cert.Pre_finite_scores_KernelIdeal.Facts := ⟨by decide, by decide, by decide⟩
/-- and on the reference's. -/
theorem pre_reference : Cert.Pre_finite_scores_ReferenceIdeal.Facts := ⟨by decide, by decide, by decide⟩

attribute [local instance] pre_kernel pre_reference

section Equal

variable (m : (ℓ : Loc nD τ sig) → Buf (Elt Ideal) ℓ)

/-- What the precondition says of the input, `Wq` and the keys of each device. -/
theorem real_args (h : Cert.Pre_KernelIdeal_finite_scores_KernelIdeal m) (c : Dev nD) :
    (∀ i, ∃ r : ℝ, (m ((c : Thread nD τ).loc main_arg0) : S1x1024x1024.Idx → EReal) i = (r : EReal))
    ∧ (∀ i, ∃ r : ℝ, (m ((c : Thread nD τ).loc main_arg1) : S1024x1024.Idx → EReal) i = (r : EReal))
    ∧ (∀ i, ∃ r : ℝ, (m ((c : Thread nD τ).loc main_arg2) : S1x1024x8x128.Idx → EReal) i = (r : EReal)) :=
  ⟨fun i => real_of_below _ (congrFun (h c).1 i), fun i => real_of_below _ (congrFun (h c).2.1 i), fun i => real_of_below _ (congrFun (h c).2.2 i)⟩

/-! ## The outputs are the reference's result -/

/-- At the source, -/
theorem outSrc_eq {A : Args Ideal} {k v : FVec Ideal Cert.ReferenceIdeal.S1x8192x8x128 .f32} (H : Shared A k v) :
    outSrc A = project (weights (exps (scores A.x A.wq k))) v A.wo := by
  funext i
  obtain ⟨a, r, e, rfl⟩ : ∃ (a : Fin 1) (r e : Fin 1024), i = ix3 a r e := ⟨i 0, i 1, i 2, eq_ix3 i⟩
  obtain rfl : a = 0 := Subsingleton.elim _ _
  exact (outSrc_at A r e).trans (result_eq H r e).symm

/-- and elsewhere. -/
theorem outRows_eq {A : Args Ideal} {k v : FVec Ideal Cert.ReferenceIdeal.S1x8192x8x128 .f32} (H : Shared A k v) :
    outRows A = project (weights (exps (scores A.x A.wq k))) v A.wo := by
  funext i
  obtain ⟨a, r, e, rfl⟩ : ∃ (a : Fin 1) (r e : Fin 1024), i = ix3 a r e := ⟨i 0, i 1, i 2, eq_ix3 i⟩
  obtain rfl : a = 0 := Subsingleton.elim _ _
  exact (outRows_at A r e).trans (result_eq H r e).symm

/-- Block 0 of the keys, or of the values, is their first 1024. -/
theorem block_zero (v : FVec Ideal Cert.ReferenceIdeal.S1x8192x8x128 .f32) (j : Fin 1024) (h : Fin 8) (d : Fin 128) :
    Layout.block ⟨4, ![1, 1024, 8, 128]⟩ ⟨4, ![1, 8192, 8, 128]⟩ 1 8 0 v (by decide) (ix4 0 j h d) = v (ix4 0 (wide j) h d) := by
  refine congrArg v (funext fun a => Fin.ext ?_)
  refine (Layout.Tiles.idx_val _ _ _ a).trans ?_
  match a with
  | ⟨0, _⟩ => rfl
  | ⟨1, _⟩ => exact (congrArg (· + j.val) (Nat.zero_mul _)).trans (Nat.zero_add _)
  | ⟨2, _⟩ => rfl
  | ⟨3, _⟩ => rfl

variable (m' : (ℓ : Loc Cert.ReferenceIdeal.nD Cert.ReferenceIdeal.τ Cert.ReferenceIdeal.sig) → Buf (Elt Ideal) ℓ)

/-- An array of the reference's one device. -/
abbrev onRef (a : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc a

/-- The kernel's arrays are the reference's: copies, and for the keys and values one of eight blocks. -/
def Placed : Prop := ∀ c : Dev nD,
  m ((c : Thread nD τ).loc main_arg0) = m' (onRef Cert.ReferenceIdeal.main_arg0)
  ∧ m ((c : Thread nD τ).loc main_arg1) = m' (onRef Cert.ReferenceIdeal.main_arg1)
  ∧ m ((c : Thread nD τ).loc main_arg2)
    = Layout.block ⟨4, ![1, 1024, 8, 128]⟩ ⟨4, ![1, 8192, 8, 128]⟩ 1 8 c (m' (onRef Cert.ReferenceIdeal.main_arg2))
  ∧ m ((c : Thread nD τ).loc main_arg3)
    = Layout.block ⟨4, ![1, 1024, 8, 128]⟩ ⟨4, ![1, 8192, 8, 128]⟩ 1 8 c (m' (onRef Cert.ReferenceIdeal.main_arg3))
  ∧ m ((c : Thread nD τ).loc main_arg4) = m' (onRef Cert.ReferenceIdeal.main_arg4)

variable {m m'}

/-- The operands of each device are those of the reference, real where the precondition says so. -/
theorem shared (hp : Cert.Pre_KernelIdeal_finite_scores_KernelIdeal m) (ha : Placed m m') (c : Dev nD) :
    Shared (argsOf m c) (m' (onRef Cert.ReferenceIdeal.main_arg2)) (m' (onRef Cert.ReferenceIdeal.main_arg3)) where
  keys j h d := (congrFun ((block_2 m 0).trans (ha 0).2.2.1) _).trans (block_zero _ j h d)
  vals j h d := (congrFun ((block_3 m 0).trans (ha 0).2.2.2.1) _).trans (block_zero _ j h d)
  x_real i d := by obtain ⟨r, hr⟩ := (real_args m hp 0).1 (ix3 0 i d); exact ⟨r, (congrFun (block_0 m 0) _).trans hr⟩
  wq_real d y := by obtain ⟨r, hr⟩ := (real_args m hp 0).2.1 (ix2 d y); exact ⟨r, (congrFun (block_1 m 0) _).trans hr⟩
  k_real j h d := by obtain ⟨r, hr⟩ := (real_args m hp 0).2.2 (ix4 0 j h d); exact ⟨r, (congrFun (block_2 m 0) _).trans hr⟩

/-- What the reference computes from its own arguments it computes from a device's operands. -/
theorem result_args (ha : Placed m m') (c : Dev nD) :
    (project (F := Ideal) (weights (exps (scores (argsOf m c).x (argsOf m c).wq (m' (onRef Cert.ReferenceIdeal.main_arg2)))))
        (m' (onRef Cert.ReferenceIdeal.main_arg3)) (argsOf m c).wo : Buf (Elt Ideal) (onRef Cert.ReferenceIdeal.main_v33))
      = Cert.ReferenceIdeal.Value.res_main_v33 m' 0 := by
  have hx : (argsOf m c).x = m' (onRef Cert.ReferenceIdeal.main_arg0) := (block_0 m 0).trans (ha 0).1
  have hq : (argsOf m c).wq = m' (onRef Cert.ReferenceIdeal.main_arg1) := (block_1 m 0).trans (ha 0).2.1
  have ho : (argsOf m c).wo = m' (onRef Cert.ReferenceIdeal.main_arg4) := (block_4 m c).trans (ha c).2.2.2.2
  rw [hx, hq, ho]
  exact (res_steps m' 0).symm

/-- Every device's output is the reference's result. -/
theorem output_eq (hp : Cert.Pre_KernelIdeal_finite_scores_KernelIdeal m) (ha : Placed m m') (c : Dev nD) :
    outAt m c = Cert.ReferenceIdeal.Value.res_main_v33 m' 0 := by
  unfold outAt
  split
  · exact (outSrc_eq (shared hp ha 0)).trans (result_args ha 0)
  · exact (outRows_eq (shared hp ha c)).trans (result_args ha c)

end Equal

/-- The kernel on eight devices and the reference on one end with the same result, on every device. -/
theorem algebraic : Cert.algebraic_KernelIdeal_ReferenceIdeal_pre_finite_scores_KernelIdeal := fun m g m' g' hp ha =>
  ⟨Cert.ReferenceIdeal.Value.res_main_v33 m' 0,
    (θ_run Cert.KernelIdeal.defs _ _).mono
      (fun _ h c => ⟨((h.1 c (5 : Fin 6)).trans (final_5 m c)).trans (output_eq hp ha c), args_kept h.1 c⟩) (run_main (F := Ideal) m g),
    (θ_run Cert.ReferenceIdeal.defs _ _).mono (fun _ h => h 0) (Cert.ReferenceIdeal.Value.run (F := Ideal) m' g')⟩

end Cert.Proof
-- ==== Proof.lean ====
module

public import proofs.«01_k».proof.Defs
public import proofs.«01_k».proof.Proof.Result

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, pre_kernel, pre_reference,
    frame_kernel, frame_ideal, fun m g _ => frame_ideal m g trivial, frame_reference, fun m g _ => frame_reference m g trivial,
    trivial, algebraic⟩

end Cert.Proof

end
